-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "ninth" .f32 0x3DE38E39#32 ((1 / 9 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x3x224x224 : Shape := ⟨4, ![1, 3, 224, 224]⟩
abbrev S_ : Shape := ⟨0, ![]⟩

class Facts : Prop where
  bcast_S_S1x3x224x224 : S_.BroadcastsInDim S1x3x224x224 (![] : Fin 0 → Fin S1x3x224x224.rank)
  reducesTo_S1x3x224x224_S_d0_1_2_3 : S1x3x224x224.ReducesTo [0, 1, 2, 3] S_
  h_S_ : 0 < S_.numel

variable [Facts]

def fn {F : FTy → Type} [FloatOps F] (main_arg0 : FVec F S1x3x224x224 .f32) : IVec S_ 1 :=
  let main_v0 : FVec F S1x3x224x224 .f32 := Host.absf main_arg0
  let main_cst : FVec F S_ .f32 := constant S_ .f32 0x7F800000#32
  let main_v1 : FVec F S1x3x224x224 .f32 := broadcastInDim S1x3x224x224 ![] bcast_S_S1x3x224x224 main_cst
  let main_v2 : IVec S1x3x224x224 1 := cmpf .olt main_v0 main_v1
  let main_c : IVec S_ 1 := constantI S_ 1 1#1
  let main_v3 : IVec S_ 1 := (fun x v => Host.reduce IntOp.andi x v reducesTo_S1x3x224x224_S_d0_1_2_3 h_S_) main_v2 main_c
  main_v3
-- ==== Kernel.lean ====
abbrev S1x3x224x224 : Shape := ⟨4, ![1, 3, 224, 224]⟩
abbrev S3x224x224 : Shape := ⟨3, ![3, 224, 224]⟩
abbrev S1x1 : Shape := ⟨2, ![1, 1]⟩
abbrev S1x224x224 : Shape := ⟨3, ![1, 224, 224]⟩
abbrev S224x224 : Shape := ⟨2, ![224, 224]⟩
abbrev S222x222 : Shape := ⟨2, ![222, 222]⟩
abbrev S1x222x222 : Shape := ⟨3, ![1, 222, 222]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 1
  | .smem => 1
  | _ => 0

abbrev bufTy : (tb : Table) → Fin (tcTables nBuf tb) → BufTy
  | .hbm, ⟨0, _⟩ => ⟨S1x3x224x224, .f32⟩
  | .hbm, ⟨1, _⟩ => ⟨S3x224x224, .f32⟩
  | .hbm, ⟨2, _⟩ => ⟨S1x1, .f32⟩
  | .hbm, ⟨3, _⟩ => ⟨S_, .f32⟩
  | .local _ .vmem, ⟨0, _⟩ => ⟨S3x224x224, .f32⟩
  | .local _ .smem, ⟨0, _⟩ => ⟨S1x1, .f32⟩
  | _, _ => ⟨S1x3x224x224, .f32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x224x224 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "ninth" => some ((1 / 9 : ℝ) : EReal)
  | _ => none
-- ==== ReferenceIdeal.lean ====
abbrev S1x3x224x224 : Shape := ⟨4, ![1, 3, 224, 224]⟩
abbrev S222x222x3x3 : Shape := ⟨4, ![222, 222, 3, 3]⟩
abbrev S_ : Shape := ⟨0, ![]⟩
abbrev S49284x9 : Shape := ⟨2, ![49284, 9]⟩
abbrev S443556 : Shape := ⟨1, ![443556]⟩
abbrev S3x224x224 : Shape := ⟨3, ![3, 224, 224]⟩
abbrev S224x224x3 : Shape := ⟨3, ![224, 224, 3]⟩
abbrev S50176x3 : Shape := ⟨2, ![50176, 3]⟩
abbrev S49284x9x1 : Shape := ⟨3, ![49284, 9, 1]⟩
abbrev S49284x9x3 : Shape := ⟨3, ![49284, 9, 3]⟩
abbrev S49284x3 : Shape := ⟨2, ![49284, 3]⟩
abbrev S49284x1x3 : Shape := ⟨3, ![49284, 1, 3]⟩
abbrev S49284x3x3 : Shape := ⟨3, ![49284, 3, 3]⟩
abbrev S3x3 : Shape := ⟨2, ![3, 3]⟩
abbrev S1x3x3 : Shape := ⟨3, ![1, 3, 3]⟩
abbrev S49284x1x1 : Shape := ⟨3, ![49284, 1, 1]⟩
abbrev S49284 : Shape := ⟨1, ![49284]⟩
abbrev S49284x1 : Shape := ⟨2, ![49284, 1]⟩
abbrev S3x50176 : Shape := ⟨2, ![3, 50176]⟩
abbrev S1x50176 : Shape := ⟨2, ![1, 50176]⟩
abbrev S50176 : Shape := ⟨1, ![50176]⟩
abbrev S443556x1 : Shape := ⟨2, ![443556, 1]⟩

abbrev nBuf : Space → Nat
  | .hbm => 222
  | .vmem => 0
  | .smem => 0
  | _ => 0

abbrev hbmTy0_0 (i : Nat) : BufTy := match i % 128 with
  | 0 => ⟨S1x3x224x224, .f32⟩
  | 1 => ⟨S222x222x3x3, .i32⟩
  | 2 => ⟨S222x222x3x3, .i32⟩
  | 3 => ⟨S222x222x3x3, .i32⟩
  | 4 => ⟨S222x222x3x3, .i32⟩
  | 5 => ⟨S222x222x3x3, .i32⟩
  | 6 => ⟨S222x222x3x3, .i32⟩
  | 7 => ⟨S_, .i32⟩
  | 8 => ⟨S222x222x3x3, .i32⟩
  | 9 => ⟨S222x222x3x3, .i32⟩
  | 10 => ⟨S222x222x3x3, .i32⟩
  | 11 => ⟨S49284x9, .i32⟩
  | 12 => ⟨S443556, .i32⟩
  | 13 => ⟨S3x224x224, .f32⟩
  | 14 => ⟨S224x224x3, .f32⟩
  | 15 => ⟨S50176x3, .f32⟩
  | 16 => ⟨S49284x9x1, .i32⟩
  | 17 => ⟨S49284x9x3, .f32⟩
  | 18 => ⟨S_, .f32⟩
  | 19 => ⟨S49284x3, .f32⟩
  | 20 => ⟨S49284x1x3, .f32⟩
  | 21 => ⟨S_, .f32⟩
  | 22 => ⟨S49284x1x3, .f32⟩
  | 23 => ⟨S49284x1x3, .f32⟩
  | 24 => ⟨S49284x3x3, .f32⟩
  | 25 => ⟨S_, .f32⟩
  | 26 => ⟨S49284x3x3, .f32⟩
  | 27 => ⟨S49284x3x3, .f32⟩
  | 28 => ⟨S49284x3x3, .f32⟩
  | 29 => ⟨S49284x3x3, .f32⟩
  | 30 => ⟨S3x3, .i32⟩
  | 31 => ⟨S3x3, .i32⟩
  | 32 => ⟨S_, .i32⟩
  | 33 => ⟨S3x3, .i32⟩
  | 34 => ⟨S3x3, .i32⟩
  | 35 => ⟨S3x3, .i1⟩
  | 36 => ⟨S3x3, .f32⟩
  | 37 => ⟨S_, .f32⟩
  | 38 => ⟨S3x3, .f32⟩
  | 39 => ⟨S3x3, .f32⟩
  | 40 => ⟨S1x3x3, .f32⟩
  | 41 => ⟨S49284x3x3, .f32⟩
  | 42 => ⟨S49284x3x3, .f32⟩
  | 43 => ⟨S49284x1x1, .f32⟩
  | 44 => ⟨S49284, .f32⟩
  | 45 => ⟨S49284x1x1, .f32⟩
  | 46 => ⟨S49284, .f32⟩
  | 47 => ⟨S49284x1x1, .f32⟩
  | 48 => ⟨S49284, .f32⟩
  | 49 => ⟨S49284x1x1, .f32⟩
  | 50 => ⟨S49284, .f32⟩
  | 51 => ⟨S49284x1x1, .f32⟩
  | 52 => ⟨S49284, .f32⟩
  | 53 => ⟨S49284x1x1, .f32⟩
  | 54 => ⟨S49284, .f32⟩
  | 55 => ⟨S49284x1x1, .f32⟩
  | 56 => ⟨S49284, .f32⟩
  | 57 => ⟨S49284x1x1, .f32⟩
  | 58 => ⟨S49284, .f32⟩
  | 59 => ⟨S49284x1x1, .f32⟩
  | 60 => ⟨S49284, .f32⟩
  | 61 => ⟨S49284, .f32⟩
  | 62 => ⟨S49284, .f32⟩
  | 63 => ⟨S49284, .f32⟩
  | 64 => ⟨S49284, .f32⟩
  | 65 => ⟨S49284, .f32⟩
  | 66 => ⟨S49284, .f32⟩
  | 67 => ⟨S49284, .f32⟩
  | 68 => ⟨S49284, .f32⟩
  | 69 => ⟨S49284, .f32⟩
  | 70 => ⟨S49284, .f32⟩
  | 71 => ⟨S49284, .f32⟩
  | 72 => ⟨S49284, .f32⟩
  | 73 => ⟨S49284, .f32⟩
  | 74 => ⟨S49284, .f32⟩
  | 75 => ⟨S49284, .f32⟩
  | 76 => ⟨S49284, .f32⟩
  | 77 => ⟨S49284, .f32⟩
  | 78 => ⟨S49284, .f32⟩
  | 79 => ⟨S49284, .f32⟩
  | 80 => ⟨S49284, .f32⟩
  | 81 => ⟨S49284, .f32⟩
  | 82 => ⟨S49284, .f32⟩
  | 83 => ⟨S49284, .f32⟩
  | 84 => ⟨S49284x1, .f32⟩
  | 85 => ⟨S49284x1, .f32⟩
  | 86 => ⟨S49284x1, .f32⟩
  | 87 => ⟨S49284x3, .f32⟩
  | 88 => ⟨S49284, .f32⟩
  | 89 => ⟨S49284, .f32⟩
  | 90 => ⟨S49284, .f32⟩
  | 91 => ⟨S49284, .f32⟩
  | 92 => ⟨S49284, .f32⟩
  | 93 => ⟨S49284, .f32⟩
  | 94 => ⟨S49284, .f32⟩
  | 95 => ⟨S49284, .f32⟩
  | 96 => ⟨S49284, .f32⟩
  | 97 => ⟨S49284x1, .f32⟩
  | 98 => ⟨S49284x1, .f32⟩
  | 99 => ⟨S49284x1, .f32⟩
  | 100 => ⟨S49284x3, .f32⟩
  | 101 => ⟨S49284, .f32⟩
  | 102 => ⟨S49284, .f32⟩
  | 103 => ⟨S49284, .f32⟩
  | 104 => ⟨S49284, .f32⟩
  | 105 => ⟨S49284, .f32⟩
  | 106 => ⟨S49284, .f32⟩
  | 107 => ⟨S49284, .f32⟩
  | 108 => ⟨S49284, .f32⟩
  | 109 => ⟨S49284, .f32⟩
  | 110 => ⟨S49284x1, .f32⟩
  | 111 => ⟨S49284x1, .f32⟩
  | 112 => ⟨S49284x1, .f32⟩
  | 113 => ⟨S49284x3, .f32⟩
  | 114 => ⟨S49284x1x3, .f32⟩
  | 115 => ⟨S49284x1x3, .f32⟩
  | 116 => ⟨S49284x1x3, .f32⟩
  | 117 => ⟨S49284x3x3, .f32⟩
  | 118 => ⟨S49284x1x1, .f32⟩
  | 119 => ⟨S49284x3x3, .f32⟩
  | 120 => ⟨S49284x3x3, .f32⟩
  | 121 => ⟨S49284x9x3, .f32⟩
  | 122 => ⟨S49284x9x3, .f32⟩
  | 123 => ⟨S49284x9x3, .f32⟩
  | 124 => ⟨S3x224x224, .f32⟩
  | 125 => ⟨S3x50176, .f32⟩
  | 126 => ⟨S1x50176, .f32⟩
  | 127 => ⟨S50176, .f32⟩
  | _ => ⟨S1x3x224x224, .f32⟩

abbrev hbmTy0_1 (i : Nat) : BufTy := match i % 128 with
  | 0 => ⟨S49284x9x1, .i32⟩
  | 1 => ⟨S49284x9, .f32⟩
  | 2 => ⟨S_, .f32⟩
  | 3 => ⟨S49284, .f32⟩
  | 4 => ⟨S49284x1, .f32⟩
  | 5 => ⟨S49284x3, .f32⟩
  | 6 => ⟨S49284x9, .f32⟩
  | 7 => ⟨S49284x9, .f32⟩
  | 8 => ⟨S49284x9, .f32⟩
  | 9 => ⟨S_, .f32⟩
  | 10 => ⟨S49284x9, .f32⟩
  | 11 => ⟨S49284x9, .f32⟩
  | 12 => ⟨S49284x9, .f32⟩
  | 13 => ⟨S_, .f32⟩
  | 14 => ⟨S50176, .f32⟩
  | 15 => ⟨S443556, .f32⟩
  | 16 => ⟨S_, .i32⟩
  | 17 => ⟨S443556, .i32⟩
  | 18 => ⟨S443556, .i1⟩
  | 19 => ⟨S_, .i32⟩
  | 20 => ⟨S443556, .i32⟩
  | 21 => ⟨S443556, .i32⟩
  | 22 => ⟨S443556, .i32⟩
  | 23 => ⟨S443556x1, .i32⟩
  | 24 => ⟨S50176, .f32⟩
  | 25 => ⟨S50176, .f32⟩
  | 26 => ⟨S_, .f32⟩
  | 27 => ⟨S_, .f32⟩
  | 28 => ⟨S_, .f32⟩
  | 29 => ⟨S_, .f32⟩
  | 30 => ⟨S1x50176, .f32⟩
  | 31 => ⟨S50176, .f32⟩
  | 32 => ⟨S49284x9x1, .i32⟩
  | 33 => ⟨S49284x9, .f32⟩
  | 34 => ⟨S_, .f32⟩
  | 35 => ⟨S49284, .f32⟩
  | 36 => ⟨S49284x1, .f32⟩
  | 37 => ⟨S49284x3, .f32⟩
  | 38 => ⟨S49284x9, .f32⟩
  | 39 => ⟨S49284x9, .f32⟩
  | 40 => ⟨S49284x9, .f32⟩
  | 41 => ⟨S_, .f32⟩
  | 42 => ⟨S49284x9, .f32⟩
  | 43 => ⟨S49284x9, .f32⟩
  | 44 => ⟨S49284x9, .f32⟩
  | 45 => ⟨S_, .f32⟩
  | 46 => ⟨S50176, .f32⟩
  | 47 => ⟨S443556, .f32⟩
  | 48 => ⟨S_, .i32⟩
  | 49 => ⟨S443556, .i32⟩
  | 50 => ⟨S443556, .i1⟩
  | 51 => ⟨S_, .i32⟩
  | 52 => ⟨S443556, .i32⟩
  | 53 => ⟨S443556, .i32⟩
  | 54 => ⟨S443556, .i32⟩
  | 55 => ⟨S443556x1, .i32⟩
  | 56 => ⟨S50176, .f32⟩
  | 57 => ⟨S50176, .f32⟩
  | 58 => ⟨S_, .f32⟩
  | 59 => ⟨S_, .f32⟩
  | 60 => ⟨S_, .f32⟩
  | 61 => ⟨S1x50176, .f32⟩
  | 62 => ⟨S50176, .f32⟩
  | 63 => ⟨S49284x9x1, .i32⟩
  | 64 => ⟨S49284x9, .f32⟩
  | 65 => ⟨S_, .f32⟩
  | 66 => ⟨S49284, .f32⟩
  | 67 => ⟨S49284x1, .f32⟩
  | 68 => ⟨S49284x3, .f32⟩
  | 69 => ⟨S49284x9, .f32⟩
  | 70 => ⟨S49284x9, .f32⟩
  | 71 => ⟨S49284x9, .f32⟩
  | 72 => ⟨S_, .f32⟩
  | 73 => ⟨S49284x9, .f32⟩
  | 74 => ⟨S49284x9, .f32⟩
  | 75 => ⟨S49284x9, .f32⟩
  | 76 => ⟨S_, .f32⟩
  | 77 => ⟨S50176, .f32⟩
  | 78 => ⟨S443556, .f32⟩
  | 79 => ⟨S_, .i32⟩
  | 80 => ⟨S443556, .i32⟩
  | 81 => ⟨S443556, .i1⟩
  | 82 => ⟨S_, .i32⟩
  | 83 => ⟨S443556, .i32⟩
  | 84 => ⟨S443556, .i32⟩
  | 85 => ⟨S443556, .i32⟩
  | 86 => ⟨S443556x1, .i32⟩
  | 87 => ⟨S50176, .f32⟩
  | 88 => ⟨S50176, .f32⟩
  | 89 => ⟨S_, .f32⟩
  | 90 => ⟨S_, .f32⟩
  | 91 => ⟨S_, .f32⟩
  | 92 => ⟨S_, .f32⟩
  | 93 => ⟨S_, .f32⟩
  | _ => ⟨S1x3x224x224, .f32⟩

abbrev hbmTy (i : Nat) : BufTy := match i / 128 with
  | 0 => hbmTy0_0 i
  | 1 => hbmTy0_1 i
  | _ => ⟨S1x3x224x224, .f32⟩

abbrev bufTy : (tb : Table) → Fin (tcTables nBuf tb) → BufTy
  | .hbm, ⟨i, _⟩ => hbmTy i
  | _, _ => ⟨S1x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_call0_v0 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_call1_v0 : Ref sig .tc := ⟨.hbm, 128, rfl⟩
abbrev main_v120 : Ref sig .tc := ⟨.hbm, 129, rfl⟩
abbrev main_cst_4 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_cst_5 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_cst_6 : Ref sig .tc := ⟨.hbm, 141, rfl⟩
abbrev main_v130 : Ref sig .tc := ⟨.hbm, 142, rfl⟩
abbrev main_v131 : Ref sig .tc := ⟨.hbm, 143, rfl⟩
abbrev main_c_7 : Ref sig .tc := ⟨.hbm, 144, rfl⟩
abbrev main_v132 : Ref sig .tc := ⟨.hbm, 145, rfl⟩
abbrev main_v133 : Ref sig .tc := ⟨.hbm, 146, rfl⟩
abbrev main_c_8 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_cst_9 : Ref sig .tc := ⟨.hbm, 154, rfl⟩
abbrev main_v140 : Ref sig .tc := ⟨.hbm, 155, rfl⟩
abbrev main_cst_10 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_call2_v0 : Ref sig .tc := ⟨.hbm, 160, rfl⟩
abbrev main_v144 : Ref sig .tc := ⟨.hbm, 161, rfl⟩
abbrev main_cst_11 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_cst_12 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_cst_13 : Ref sig .tc := ⟨.hbm, 173, rfl⟩
abbrev main_v154 : Ref sig .tc := ⟨.hbm, 174, rfl⟩
abbrev main_v155 : Ref sig .tc := ⟨.hbm, 175, rfl⟩
abbrev main_c_14 : Ref sig .tc := ⟨.hbm, 176, rfl⟩
abbrev main_v156 : Ref sig .tc := ⟨.hbm, 177, rfl⟩
abbrev main_v157 : Ref sig .tc := ⟨.hbm, 178, rfl⟩
abbrev main_c_15 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_cst_16 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_call3_v0 : Ref sig .tc := ⟨.hbm, 191, rfl⟩
abbrev main_v168 : Ref sig .tc := ⟨.hbm, 192, rfl⟩
abbrev main_cst_17 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_cst_18 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_cst_19 : Ref sig .tc := ⟨.hbm, 204, rfl⟩
abbrev main_v178 : Ref sig .tc := ⟨.hbm, 205, rfl⟩
abbrev main_v179 : Ref sig .tc := ⟨.hbm, 206, rfl⟩
abbrev main_c_20 : Ref sig .tc := ⟨.hbm, 207, rfl⟩
abbrev main_v180 : Ref sig .tc := ⟨.hbm, 208, rfl⟩
abbrev main_v181 : Ref sig .tc := ⟨.hbm, 209, rfl⟩
abbrev main_c_21 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_cst_22 : Ref sig .tc := ⟨.hbm, 217, rfl⟩
abbrev main_v188 : Ref sig .tc := ⟨.hbm, 218, rfl⟩
abbrev main_v189 : Ref sig .tc := ⟨.hbm, 219, rfl⟩
abbrev main_cst_23 : Ref sig .tc := ⟨.hbm, 220, rfl⟩
abbrev main_v190 : Ref sig .tc := ⟨.hbm, 221, rfl⟩

abbrev nD : Nat := 1
abbrev τ : Topo := Topo.v7x

variable {F : FTy → Type} [FloatOps F]
-- ==== Proof.Finite.lean ====
/- What the precondition gives: a finite image is an image of real pixels. -/
module

public import proofs.«01_k».proof.Pre_finite
public import Idealize.ShloMosaic.Lib.Claim
public import Idealize.ShloMosaic.Lib.Pointwise
public import Idealize.ShloMosaic.Lib.ReduceAll
@[expose] public section

set_option maxRecDepth 16384

noncomputable section

open Idealize.ShloMosaic

namespace Cert.Pre_finite

variable [Facts]

/-- The word the magnitudes are compared with is the top of the extended reals. -/
theorem ofBits_inf : Ideal.ofBits .f32 0x7F800000#32 = (⊤ : EReal) := by
  simp [Ideal.ofBits, Ideal.ieee]

/-- An extended real whose magnitude is below the top is real. -/
theorem real_of_abs_lt (a : EReal) (h : max a (-a) < ⊤) : ((a.toReal : ℝ) : EReal) = a := by
  refine EReal.coe_toReal (fun e => ?_) (fun e => ?_)
  · rw [e] at h
    simp at h
  · rw [e] at h
    simp at h

/-- Each element of a finite image is real. -/
theorem elements_real (x : FVec Ideal S1x3x224x224 .f32) (h : fn (F := Ideal) x = fun _ => 1#1) (i : S1x3x224x224.Idx) :
    (((x i : EReal).toReal : ℝ) : EReal) = x i := by
  have e := congrFun h (fun a => Fin.elim0 a)
  have hi := Host.reduce_andi_all _ _ _ _ _ e i
  refine real_of_abs_lt _ ?_
  have hc : Ideal.cmp .olt (max (x i : EReal) (-(x i : EReal))) (Ideal.ofBits .f32 0x7F800000#32) = 1#1 := hi
  rw [ofBits_inf] at hc
  by_contra hn
  simp only [Ideal.cmp, hn, decide_false] at hc
  exact absurd hc (by decide)

/-- The pixels of a finite image. -/
def reals (x : FVec Ideal S1x3x224x224 .f32) (c a b : ℕ) : ℝ :=
  if h : c < 3 ∧ a < 224 ∧ b < 224 then (x (ix4 0 ⟨c, h.1⟩ ⟨a, h.2.1⟩ ⟨b, h.2.2⟩) : EReal).toReal else 0

/-- A finite image is the image of its pixels. -/
theorem image_of_finite (x : FVec Ideal S1x3x224x224 .f32) (h : fn (F := Ideal) x = fun _ => 1#1) :
    x = fun i => ((reals x (i 1).val (i 2).val (i 3).val : ℝ) : EReal) := by
  funext i
  rw [reals, dif_pos ⟨(i 1).isLt, (i 2).isLt, (i 3).isLt⟩]
  have e : (ix4 0 ⟨(i 1).val, (i 1).isLt⟩ ⟨(i 2).val, (i 2).isLt⟩ ⟨(i 3).val, (i 3).isLt⟩ : S1x3x224x224.Idx) = i := by
    funext a
    fin_cases a
    · exact Subsingleton.elim (α := Fin 1) _ _
    · rfl
    · rfl
    · rfl
  exact (elements_real x h i).symm.trans (congrArg (fun j => (((x j : EReal).toReal : ℝ) : EReal)) e.symm)

end Cert.Pre_finite
-- ==== Proof.Window.lean ====
/- The real mathematics of one 3 by 3 window: three channels of nine pixels, their means, the regularised covariance,
   its inverse, and the residuals the loss is a sum of. Nothing here mentions a program. -/
module

public import Idealize.ShloMosaic.Lib.Claim
public import Idealize.ShloMosaic.Lib.Pointwise
@[expose] public section

noncomputable section

namespace Cert.Loss

/-- The pixels of one window: channel, then position in the window. -/
abbrev Win : Type := Fin 3 → Fin 9 → ℝ

/-- The regulariser both programs add to the covariance's diagonal: the value of the word `0x323EE32F`. -/
def delta : ℝ := 12509999 / 2 ^ 50

/-- One pixel of the window. -/
def pix (c : Fin 3) (j : Fin 9) (x : Win) : ℝ := x c j

/-- The sum of a channel over the window. -/
def tot (c : Fin 3) (x : Win) : ℝ := ∑ j, x c j

/-- The mean of a channel over the window. -/
def mean (c : Fin 3) (x : Win) : ℝ := tot c x / 9

/-- A pixel's deviation from its channel's mean. -/
def dev (c : Fin 3) (j : Fin 9) (x : Win) : ℝ := x c j - mean c x

/-- The regularised covariance of two channels. -/
def cov (i k : Fin 3) (x : Win) : ℝ :=
  (∑ j, x i j * x k j) / 9 - mean i x * mean k x + delta * (if i = k then 1 else 0)

/-- The signed cofactor of the covariance at a row and a column. -/
def cof (i j : Fin 3) (x : Win) : ℝ :=
  cov (i + 1) (j + 1) x * cov (i + 2) (j + 2) x - cov (i + 1) (j + 2) x * cov (i + 2) (j + 1) x

/-- The determinant of the covariance. -/
def det (x : Win) : ℝ := cov 0 0 x * cof 0 0 x + cov 0 1 x * cof 0 1 x + cov 0 2 x * cof 0 2 x

/-- The inverse of the covariance: adjugate over determinant. -/
def inv (i k : Fin 3) (x : Win) : ℝ := cof k i x / det x

/-- A row of deviations times the inverse covariance. -/
def proj (j : Fin 9) (k : Fin 3) (x : Win) : ℝ := ∑ i, dev i j x * inv i k x

/-- The deviations of channel `k` against the pixels of channel `c`. -/
def mom (c k : Fin 3) (x : Win) : ℝ := ∑ j, dev k j x * x c j

/-- The part of a pixel the window's colour model explains, before the mean. -/
def fit (c : Fin 3) (j : Fin 9) (x : Win) : ℝ := ∑ k, proj j k x * mom c k x

/-- What the window's colour model leaves of a pixel. -/
def resid (c : Fin 3) (j : Fin 9) (x : Win) : ℝ := x c j - (tot c x + fit c j x) / 9

/-- The window's contribution to the loss from one channel. -/
def lossC (c : Fin 3) (x : Win) : ℝ := ∑ j, resid c j x * x c j

/-- The window's contribution to the loss. -/
def loss (x : Win) : ℝ := ∑ c, lossC c x

/-- The regulariser is positive. -/
theorem delta_pos : 0 < delta := by unfold delta; norm_num

/-- The covariance is symmetric. -/
theorem cov_symm (i k : Fin 3) (x : Win) : cov i k x = cov k i x := by
  unfold cov
  rw [mul_comm (mean i x)]
  simp only [eq_comm (a := i), mul_comm (x i _)]

/-- The covariance from the deviations. -/
theorem cov_eq_dev (i k : Fin 3) (x : Win) :
    cov i k x = (∑ j, dev i j x * dev k j x) / 9 + delta * (if i = k then 1 else 0) := by
  unfold cov
  congr 1
  simp only [dev, mean, tot, Fin.sum_univ_succ, Fin.sum_univ_zero]
  ring

/-- The covariance's quadratic form dominates `delta` times the square length. -/
theorem quad_ge (u : Fin 3 → ℝ) (x : Win) :
    delta * (∑ i, u i ^ 2) ≤ ∑ i, ∑ k, u i * u k * cov i k x := by
  have key : ∑ i, ∑ k, u i * u k * cov i k x = (∑ j, (∑ i, u i * dev i j x) ^ 2) / 9 + delta * (∑ i, u i ^ 2) := by
    obtain ⟨D, hD⟩ : ∃ D : Fin 3 → Fin 9 → ℝ, ∀ i j, dev i j x = D i j := ⟨fun i j => dev i j x, fun _ _ => rfl⟩
    simp only [cov_eq_dev, hD]
    simp only [Fin.sum_univ_three, Fin.isValue, Fin.reduceEq, if_true, if_false, mul_one, mul_zero, add_zero]
    have e : ∀ j, (u 0 * D 0 j + u 1 * D 1 j + u 2 * D 2 j) ^ 2
        = u 0 * u 0 * (D 0 j * D 0 j) + u 0 * u 1 * (D 0 j * D 1 j) + u 0 * u 2 * (D 0 j * D 2 j)
          + (u 1 * u 0 * (D 1 j * D 0 j) + u 1 * u 1 * (D 1 j * D 1 j) + u 1 * u 2 * (D 1 j * D 2 j))
          + (u 2 * u 0 * (D 2 j * D 0 j) + u 2 * u 1 * (D 2 j * D 1 j) + u 2 * u 2 * (D 2 j * D 2 j)) := fun j => by ring
    simp only [e, Finset.sum_add_distrib, ← Finset.mul_sum]
    ring
  rw [key]
  have : 0 ≤ (∑ j, (∑ i, u i * dev i j x) ^ 2) / 9 := by positivity
  linarith

/-- The covariance's first entry is positive. -/
theorem cov00_pos (x : Win) : 0 < cov 0 0 x := by
  rw [cov_eq_dev]
  have : 0 ≤ (∑ j, dev 0 j x * dev 0 j x) / 9 := by
    have : ∀ j, 0 ≤ dev 0 j x * dev 0 j x := fun j => mul_self_nonneg _
    exact div_nonneg (Finset.sum_nonneg fun j _ => this j) (by norm_num)
  have := delta_pos
  simp; linarith

/-- The quadratic form written out in the six entries. -/
theorem quad_ge' (u v w : ℝ) (x : Win) : delta * (u ^ 2 + v ^ 2 + w ^ 2) ≤
    cov 0 0 x * u ^ 2 + cov 1 1 x * v ^ 2 + cov 2 2 x * w ^ 2
      + 2 * (cov 0 1 x * u * v + cov 0 2 x * u * w + cov 1 2 x * v * w) := by
  have h := quad_ge ![u, v, w] x
  simp only [Fin.sum_univ_three, Matrix.cons_val_zero, Matrix.cons_val_one, Matrix.cons_val, Fin.isValue,
    cov_symm 1 0 x, cov_symm 2 0 x, cov_symm 2 1 x] at h
  linarith

/-- The covariance's leading second minor is positive. -/
theorem minor_pos (x : Win) : 0 < cov 0 0 x * cov 1 1 x - cov 0 1 x * cov 0 1 x := by
  have h := quad_ge' (-cov 0 1 x) (cov 0 0 x) 0 x
  have ha := cov00_pos x
  have hp : 0 < delta * ((-cov 0 1 x) ^ 2 + cov 0 0 x ^ 2 + 0 ^ 2) := by
    have := delta_pos; positivity
  have h2 : 0 < cov 0 0 x * (cov 0 0 x * cov 1 1 x - cov 0 1 x * cov 0 1 x) := by nlinarith
  exact (pos_iff_pos_of_mul_pos h2).mp ha

/-- The determinant in the six entries. -/
theorem det_eq (x : Win) : det x = cov 0 0 x * (cov 1 1 x * cov 2 2 x - cov 1 2 x * cov 1 2 x)
    - cov 0 1 x * (cov 0 1 x * cov 2 2 x - cov 1 2 x * cov 0 2 x)
    + cov 0 2 x * (cov 0 1 x * cov 1 2 x - cov 1 1 x * cov 0 2 x) := by
  have e1 : (0 : Fin 3) + 1 = 1 := rfl
  have e2 : (0 : Fin 3) + 2 = 2 := rfl
  have e3 : (1 : Fin 3) + 1 = 2 := rfl
  have e4 : (1 : Fin 3) + 2 = 0 := rfl
  have e5 : (2 : Fin 3) + 1 = 0 := rfl
  have e6 : (2 : Fin 3) + 2 = 1 := rfl
  simp only [det, cof, e1, e2, e3, e4, e5, e6, cov_symm 1 0 x, cov_symm 2 0 x, cov_symm 2 1 x]
  ring

/-- The determinant of the covariance is positive. -/
theorem det_pos (x : Win) : 0 < det x := by
  have hm := minor_pos x
  have h := quad_ge' (cov 0 1 x * cov 1 2 x - cov 0 2 x * cov 1 1 x) (cov 0 1 x * cov 0 2 x - cov 0 0 x * cov 1 2 x)
    (cov 0 0 x * cov 1 1 x - cov 0 1 x * cov 0 1 x) x
  have hp : 0 < delta * ((cov 0 1 x * cov 1 2 x - cov 0 2 x * cov 1 1 x) ^ 2
      + (cov 0 1 x * cov 0 2 x - cov 0 0 x * cov 1 2 x) ^ 2
      + (cov 0 0 x * cov 1 1 x - cov 0 1 x * cov 0 1 x) ^ 2) := by
    have := delta_pos; positivity
  have h2 : 0 < (cov 0 0 x * cov 1 1 x - cov 0 1 x * cov 0 1 x) * det x := by
    rw [det_eq]; refine lt_of_lt_of_le hp (h.trans (le_of_eq ?_)); ring
  exact (pos_iff_pos_of_mul_pos h2).mp hm

/-- The determinant is not zero. -/
theorem det_ne (x : Win) : det x ≠ 0 := (det_pos x).ne'

end Cert.Loss

end
-- ==== Proof.Lift.lean ====
/- Arrays that hold one real function of the window at every index, and the vector operations on them: each operation on
   lifted arrays is the lift of the same operation on the real functions. -/
module

public import proofs.«01_k».proof.Proof.Window
public import Idealize.ShloMosaic.Lib.IdealHost
@[expose] public section

noncomputable section

open Idealize.ShloMosaic
open scoped Classical

namespace Cert.Loss

variable {s : Shape} (W : s.Idx → Win)

/-- The array that holds `f` of the window at each index. -/
def lift (f : Win → ℝ) : FVec Ideal s .f32 := fun i => ((f (W i) : ℝ) : EReal)

/-- The array of truth bits of `p` of the window at each index. -/
def liftp (p : Win → Prop) : IVec s 1 := fun i => if p (W i) then 1#1 else 0#1

/-- The array of words `q` of the window at each index. -/
def lifti (q : Win → BitVec 32) : IVec s 32 := fun i => q (W i)

variable {W} {f g : Win → ℝ} {p q : Win → Prop} {u v : Win → BitVec 32}

/-- Addition of lifted arrays. -/
theorem addf_lift : addf (lift W f) (lift W g) = lift W (fun x => f x + g x) :=
  funext fun i => (EReal.coe_add _ _).symm

/-- Subtraction of lifted arrays. -/
theorem subf_lift : subf (lift W f) (lift W g) = lift W (fun x => f x - g x) :=
  funext fun i => (EReal.coe_sub _ _).symm

/-- Multiplication of lifted arrays. -/
theorem mulf_lift : mulf (lift W f) (lift W g) = lift W (fun x => f x * g x) :=
  funext fun i => (EReal.coe_mul _ _).symm

/-- Division of lifted arrays, where the divisor vanishes nowhere. -/
theorem divf_lift (h : ∀ x, g x ≠ 0) : divf (lift W f) (lift W g) = lift W (fun x => f x / g x) := by
  funext i
  show Ideal.div ((f (W i) : ℝ) : EReal) ((g (W i) : ℝ) : EReal) = _
  rw [Ideal.div_coe (h _), ← EReal.coe_mul, mul_one_div]
  rfl

/-- Absolute value of a lifted array. -/
theorem absf_lift : absf (lift W f) = lift W (fun x => |f x|) := by
  funext i
  show max ((f (W i) : ℝ) : EReal) (-((f (W i) : ℝ) : EReal)) = _
  rw [← EReal.coe_neg, ← EReal.coe_strictMono.monotone.map_max]
  rfl

/-- Maximum of lifted arrays. -/
theorem maximumf_lift : maximumf (lift W f) (lift W g) = lift W (fun x => max (f x) (g x)) :=
  funext fun i => (EReal.coe_strictMono.monotone.map_max).symm

/-- Rounding to the narrow format and back changes nothing in exact arithmetic. -/
theorem round_trip (x : FVec Ideal s .f32) (h : FTy.bits .bf16 < FTy.bits .f32) (h' : FTy.bits .bf16 < FTy.bits .f32) :
    extf .f32 (truncf .bf16 x h) h' = x := rfl

/-- Comparison of lifted arrays. -/
theorem cmpf_lift : cmpf .ogt (lift W f) (lift W g) = liftp W (fun x => g x < f x) := by
  funext i
  show Ideal.cmp .ogt ((f (W i) : ℝ) : EReal) ((g (W i) : ℝ) : EReal) = _
  simp only [Ideal.cmp, liftp, EReal.coe_lt_coe_iff]
  by_cases h : g (W i) < f (W i) <;> simp [h]

/-- Equality of lifted words. -/
theorem cmpi_lift : cmpi .eq (lifti W u) (lifti W v) = liftp W (fun x => u x = v x) := by
  funext i
  show IntOp.cmpi .eq (u (W i)) (v (W i)) = _
  simp only [IntOp.cmpi, liftp]
  by_cases h : u (W i) = v (W i)
  · simp [h]
  · simp [h, beq_eq_false_iff_ne.mpr h]

/-- Choice between lifted arrays. -/
theorem select_lift : select (liftp W p) (lift W f) (lift W g) = lift W (fun x => if p x then f x else g x) := by
  funext i
  simp only [select, Scalar.select, liftp, lift]
  by_cases h : p (W i) <;> simp [h]

/-- Choice between lifted words. -/
theorem select_lifti : select (liftp W p) (lifti W u) (lifti W v) = lifti W (fun x => if p x then u x else v x) := by
  funext i
  simp only [select, Scalar.select, liftp, lifti]
  by_cases h : p (W i) <;> simp [h]

/-- Conjunction of lifted bits. -/
theorem andi_lift : andi (liftp W p) (liftp W q) = liftp W (fun x => p x ∧ q x) := by
  funext i
  show IntOp.andi (liftp W p i) (liftp W q i) = _
  simp only [IntOp.andi, liftp]
  by_cases h : p (W i) <;> by_cases h' : q (W i) <;> simp [h, h']

/-- Negation of lifted bits: the exclusive or with all ones. -/
theorem xori_lift : xori (liftp W p) (constantI s 1 1#1) = liftp W (fun x => ¬ p x) := by
  funext i
  show IntOp.xori (liftp W p i) 1#1 = _
  simp only [IntOp.xori, liftp]
  by_cases h : p (W i) <;> simp [h]

/-- Sum of lifted words. -/
theorem addi_lift : addi (lifti W u) (lifti W v) = lifti W (fun x => u x + v x) := rfl

/-- A broadcast word is a lifted constant. -/
theorem broadcast_word (b : BitVec 32) : broadcast s b = lifti W (fun _ => b) := rfl

/-- The zero word broadcast. -/
theorem broadcast_zero : broadcast s (Scalar.ofBits .f32 0x00000000#32 : Ideal .f32) = lift W (fun _ => 0) := by
  funext i
  show Ideal.ofBits .f32 0x00000000#32 = _
  simp [Ideal.ofBits, Ideal.ieee, lift]

/-- The word of one broadcast. -/
theorem broadcast_one : broadcast s (Scalar.ofBits .f32 0x3F800000#32 : Ideal .f32) = lift W (fun _ => 1) := by
  funext i
  show Ideal.ofBits .f32 0x3F800000#32 = _
  rw [Ideal.ofBits_one_f32]
  rfl

/-- The value of the regulariser's word. -/
theorem ofBits_delta : Ideal.ofBits .f32 0x323EE32F#32 = ((delta : ℝ) : EReal) := by
  simp [Ideal.ofBits, Ideal.ieee, delta, -EReal.coe_mul]
  norm_num

/-- The regulariser's word broadcast. -/
theorem broadcast_delta : broadcast s (Scalar.ofBits .f32 0x323EE32F#32 : Ideal .f32) = lift W (fun _ => delta) :=
  funext fun _ => ofBits_delta

/-- A sum of reals, as an extended real. -/
theorem coe_sum {ι : Type*} (t : Finset ι) (f : ι → ℝ) : ((∑ i ∈ t, f i : ℝ) : EReal) = ∑ i ∈ t, ((f i : ℝ) : EReal) :=
  map_sum (⟨⟨Real.toEReal, EReal.coe_zero⟩, EReal.coe_add⟩ : ℝ →+ EReal) f t

/-- A quotient of reals, as an extended real. -/
theorem div_real (a b : ℝ) (hb : b ≠ 0) : Ideal.div (a : EReal) (b : EReal) = ((a / b : ℝ) : EReal) := by
  rw [Ideal.div_coe hb, ← EReal.coe_mul]
  congr 1
  ring

/-- The value of nine's word. -/
theorem ofBits_nine : Ideal.ofBits .f32 0x41100000#32 = ((9 : ℝ) : EReal) := by
  simp [Ideal.ofBits, Ideal.ieee, -EReal.coe_mul]
  norm_num

/-- The identity matrix as its comparison computes it. -/
theorem eye_at (i k : Fin 3) :
    (FloatOps.uitofp FTy.f32 (IntOp.cmpi CmpIPredicate.eq (IntOp.addi (BitVec.ofNat 32 i.val) 0#32) (BitVec.ofNat 32 k.val)) : Ideal .f32)
      = (((if i = k then 1 else 0 : ℝ)) : EReal) := by
  fin_cases i <;> fin_cases k <;> simp [FloatOps.uitofp, IntOp.cmpi, IntOp.addi]

end Cert.Loss

end
-- ==== Proof.Pivot.lean ====
/- The real mathematics of the pivoted elimination: the rows it picks, its multipliers and pivots, and that the
   triangular inverses it forms multiply back to the inverse of the covariance. -/
module

public import proofs.«01_k».proof.Proof.Window
@[expose] public section

noncomputable section

open scoped Classical

namespace Cert.Loss

/-- The second row's first entry exceeds the first row's. -/
def P1 (x : Win) : Prop := |cov 0 0 x| < |cov 0 1 x|

/-- The third row's first entry exceeds both others. -/
def P2 (x : Win) : Prop := max |cov 0 0 x| |cov 0 1 x| < |cov 0 2 x|

/-- The row chosen first. -/
def top (c : Fin 3) (x : Win) : ℝ := if P2 x then cov 2 c x else if P1 x then cov 1 c x else cov 0 c x

/-- The row left second by the first exchange. -/
def mid (c : Fin 3) (x : Win) : ℝ := if P1 x ∧ ¬ P2 x then cov 0 c x else cov 1 c x

/-- The row left third by the first exchange. -/
def bot (c : Fin 3) (x : Win) : ℝ := if P2 x then cov 0 c x else cov 2 c x

/-- The second row's multiplier. -/
def mulM (x : Win) : ℝ := mid 0 x / top 0 x

/-- The third row's multiplier. -/
def mulB (x : Win) : ℝ := bot 0 x / top 0 x

/-- The second row after one step. -/
def stepM (c : Fin 3) (x : Win) : ℝ := mid c x - mulM x * top c x

/-- The third row after one step. -/
def stepB (c : Fin 3) (x : Win) : ℝ := bot c x - mulB x * top c x

/-- The third row is the second pivot's. -/
def P3 (x : Win) : Prop := |stepM 1 x| < |stepB 1 x|

/-- The second pivot's row. -/
def piv (c : Fin 3) (x : Win) : ℝ := if P3 x then stepB c x else stepM c x

/-- The row left last. -/
def low (c : Fin 3) (x : Win) : ℝ := if P3 x then stepM c x else stepB c x

/-- The pivot row's multiplier. -/
def mulP (x : Win) : ℝ := if P3 x then mulB x else mulM x

/-- The last row's multiplier of the first pivot. -/
def mulL (x : Win) : ℝ := if P3 x then mulM x else mulB x

/-- The last row's multiplier of the second pivot. -/
def mulS (x : Win) : ℝ := low 1 x / piv 1 x

/-- The last pivot. -/
def last (x : Win) : ℝ := low 2 x - mulS x * piv 2 x

/-- The original row number of the first pivot, as a word. -/
def q0 (x : Win) : BitVec 32 := if P2 x then 2#32 else if P1 x then 1#32 else 0#32

/-- The original row number of the second pivot, as a word. -/
def q1 (x : Win) : BitVec 32 :=
  if P3 x then (if P2 x then 0#32 else 2#32) else (if P1 x ∧ ¬ P2 x then 0#32 else 1#32)

/-- The inverse of the upper triangle. -/
def uinv (i k : Fin 3) (x : Win) : ℝ :=
  ![![1 / top 0 x, 0 - top 1 x / top 0 x * (1 / piv 1 x),
      (top 1 x / top 0 x * (piv 2 x / piv 1 x) - top 2 x / top 0 x) * (1 / last x)],
    ![0, 1 / piv 1 x, 0 - piv 2 x / piv 1 x * (1 / last x)],
    ![0, 0, 1 / last x]] i k

/-- The inverse of the unit lower triangle. -/
def linv (k r : Fin 3) (x : Win) : ℝ :=
  ![![1, 0, 0], ![0 - mulP x, 1, 0], ![mulP x * mulS x - mulL x, 0 - mulS x, 1]] k r

/-- The eliminated row that original row `b` became. -/
def place (b : BitVec 32) (x : Win) : Fin 3 := if q0 x = b then 0 else if q1 x = b then 1 else 2

/-- An entry of the inverse as the elimination forms it, column `b` of the original. -/
def elim (i : Fin 3) (b : BitVec 32) (x : Win) : ℝ := ∑ k, uinv i k x * linv k (place b x) x

/-- The cofactor of a general 3 by 3 matrix. -/
def gcof (r : Fin 3 → Fin 3 → ℝ) (i j : Fin 3) : ℝ :=
  r (i + 1) (j + 1) * r (i + 2) (j + 2) - r (i + 1) (j + 2) * r (i + 2) (j + 1)

/-- The determinant of a general 3 by 3 matrix. -/
def gdet (r : Fin 3 → Fin 3 → ℝ) : ℝ := r 0 0 * gcof r 0 0 + r 0 1 * gcof r 0 1 + r 0 2 * gcof r 0 2

/-- The first pivot is not zero. -/
theorem top_ne (x : Win) : top 0 x ≠ 0 := by
  have ha := cov00_pos x
  unfold top
  split
  · rename_i h
    intro h0
    rw [cov_symm] at h0
    unfold P2 at h
    rw [h0, abs_zero] at h
    exact absurd h (not_lt.mpr (le_max_of_le_left (abs_nonneg _)))
  · split
    · rename_i _ h
      intro h0
      rw [cov_symm] at h0
      unfold P1 at h
      rw [h0, abs_zero] at h
      exact absurd h (not_lt.mpr (abs_nonneg _))
    · exact ha.ne'

/-- The three rows after the exchanges. -/
def rows (x : Win) : Fin 3 → Fin 3 → ℝ :=
  ![fun c => top c x, fun c => if P3 x then bot c x else mid c x, fun c => if P3 x then mid c x else bot c x]

/-- The exchanged rows' determinant is the covariance's, up to sign. -/
theorem gdet_rows (x : Win) : gdet (rows x) = det x ∨ gdet (rows x) = - det x := by
  rw [det_eq]
  by_cases h2 : P2 x <;> by_cases h1 : P1 x <;> by_cases h3 : P3 x <;>
    simp [gdet, gcof, rows, top, mid, bot, h1, h2, h3, cov_symm 1 0 x, cov_symm 2 0 x, cov_symm 2 1 x] <;>
    first | (left; ring; done) | (right; ring; done)

/-- The exchanged rows' determinant is not zero. -/
theorem gdet_rows_ne (x : Win) : gdet (rows x) ≠ 0 := by
  rcases gdet_rows x with h | h <;> rw [h]
  · exact det_ne x
  · exact neg_ne_zero.mpr (det_ne x)

/-- The pivot row after one step, from the exchanged rows. -/
theorem piv_eq (c : Fin 3) (x : Win) : piv c x = rows x 1 c - mulP x * top c x := by
  by_cases h : P3 x <;> simp [piv, mulP, rows, stepB, stepM, h]

/-- The last row after one step, from the exchanged rows. -/
theorem low_eq (c : Fin 3) (x : Win) : low c x = rows x 2 c - mulL x * top c x := by
  by_cases h : P3 x <;> simp [low, mulL, rows, stepB, stepM, h]

/-- The pivot row's first entry is its multiplier times the first pivot. -/
theorem mulP_eq (x : Win) : rows x 1 0 = mulP x * top 0 x := by
  have := top_ne x
  by_cases h : P3 x <;> simp [mulP, mulB, mulM, rows, h] <;> field_simp

/-- The last row's first entry is its multiplier times the first pivot. -/
theorem mulL_eq (x : Win) : rows x 2 0 = mulL x * top 0 x := by
  have := top_ne x
  by_cases h : P3 x <;> simp [mulL, mulB, mulM, rows, h] <;> field_simp

/-- The determinant after one step of elimination. -/
theorem gdet_step (x : Win) : gdet (rows x) = top 0 x * (piv 1 x * low 2 x - low 1 x * piv 2 x) := by
  have e1 := piv_eq 1 x; have e2 := piv_eq 2 x; have e3 := low_eq 1 x; have e4 := low_eq 2 x
  have e5 := mulP_eq x; have e6 := mulL_eq x
  rw [e1, e2, e3, e4]
  have e0 : ∀ c, rows x 0 c = top c x := fun _ => rfl
  simp only [gdet, gcof, zero_add, show (0 : Fin 3) + 1 = 1 from rfl, show (0 : Fin 3) + 2 = 2 from rfl,
    show (1 : Fin 3) + 1 = 2 from rfl, show (1 : Fin 3) + 2 = 0 from rfl, show (2 : Fin 3) + 1 = 0 from rfl,
    show (2 : Fin 3) + 2 = 1 from rfl, e0, e5, e6]
  ring

/-- The second pivot is not zero: it is the larger of the two candidates, and were both zero the determinant were. -/
theorem piv_ne (x : Win) : piv 1 x ≠ 0 := by
  intro h
  have hl : low 1 x = 0 := by
    unfold piv at h
    unfold low
    split
    · rename_i hp
      rw [if_pos hp] at h
      unfold P3 at hp
      rw [h, abs_zero] at hp
      exact absurd hp (not_lt.mpr (abs_nonneg _))
    · rename_i hp
      rw [if_neg hp] at h
      unfold P3 at hp
      rw [h, abs_zero] at hp
      exact abs_nonpos_iff.mp (not_lt.mp hp)
  apply gdet_rows_ne x
  rw [gdet_step, h, hl]
  ring

/-- The determinant is the product of the pivots. -/
theorem gdet_pivots (x : Win) : gdet (rows x) = top 0 x * piv 1 x * last x := by
  rw [gdet_step]
  have := piv_ne x
  unfold last mulS
  field_simp

/-- The last pivot is not zero. -/
theorem last_ne (x : Win) : last x ≠ 0 := by
  intro h
  apply gdet_rows_ne x
  rw [gdet_pivots, h, mul_zero]

/-- The triangular inverses multiply to the adjugate over the determinant of the exchanged rows. -/
theorem elim_rows (i r : Fin 3) (x : Win) :
    ∑ k, uinv i k x * linv k r x = gcof (rows x) r i / gdet (rows x) := by
  have ht := top_ne x; have hp := piv_ne x; have hl := last_ne x
  have e0 : ∀ c, rows x 0 c = top c x := fun _ => rfl
  have e1 : rows x 1 1 = piv 1 x + mulP x * top 1 x := by rw [piv_eq]; ring
  have e2 : rows x 1 2 = piv 2 x + mulP x * top 2 x := by rw [piv_eq]; ring
  have es : low 1 x = mulS x * piv 1 x := by unfold mulS; field_simp
  have e3 : rows x 2 1 = mulS x * piv 1 x + mulL x * top 1 x := by rw [← es, low_eq]; ring
  have e4 : rows x 2 2 = last x + mulS x * piv 2 x + mulL x * top 2 x := by
    have := low_eq 2 x; unfold last; linarith
  rw [gdet_pivots]
  fin_cases i <;> fin_cases r <;>
    simp only [Fin.sum_univ_three, gcof, zero_add, Fin.zero_eta, Fin.mk_one, Fin.reduceFinMk, Fin.isValue,
      show (0 : Fin 3) + 1 = 1 from rfl, show (0 : Fin 3) + 2 = 2 from rfl,
      show (1 : Fin 3) + 1 = 2 from rfl, show (1 : Fin 3) + 2 = 0 from rfl, show (2 : Fin 3) + 1 = 0 from rfl,
      show (2 : Fin 3) + 2 = 1 from rfl, e0, e1, e2, e3, e4, mulP_eq, mulL_eq] <;>
    simp [uinv, linv] <;> field_simp <;> ring

/-- The covariance as a general matrix. -/
theorem cof_eq (i j : Fin 3) (x : Win) : cof i j x = gcof (fun a b => cov a b x) i j := rfl

/-- The elimination inverts the covariance. -/
theorem elim_eq (i j : Fin 3) (x : Win) : elim i (BitVec.ofNat 32 j.val) x = inv i j x := by
  unfold elim inv
  rw [elim_rows]
  rw [div_eq_div_iff (gdet_rows_ne x) (det_ne x), det_eq x]
  fin_cases j <;> by_cases h2 : P2 x <;> by_cases h1 : P1 x <;> by_cases h3 : P3 x <;> fin_cases i <;>
    simp [gdet, gcof, cof, place, q0, q1, rows, top, mid, bot, h1, h2, h3, cov_symm 1 0 x, cov_symm 2 0 x,
      cov_symm 2 1 x, -mul_eq_mul_left_iff, -mul_eq_mul_right_iff] <;>
    ring

end Cert.Loss

end
-- ==== Proof.Elim.lean ====
/- The kernel's elimination on lifted arrays: each value of the pivoted factorisation, given the covariance's lifted
   entries, is the lift of the elimination's real function of the same window. -/
module

public import proofs.«01_k».proof.Proof.Gen.KernelIdeal.Skeleton
public import proofs.«01_k».proof.Proof.Lift
public import proofs.«01_k».proof.Proof.Pivot
@[expose] public section

set_option maxRecDepth 16384

noncomputable section

open Idealize.ShloMosaic
open scoped Classical

namespace Cert.KernelIdeal.Value

open Cert.Loss Cert.KernelIdeal Cert.KernelIdeal.Gen

variable {W : S222x222.Idx → Win}

/-- The kernel's first comparison: the second row's first entry exceeds the first row's. -/
theorem pay84_lift : k0_pay84 (lift W (cov 0 0)) (lift W (cov 0 1)) = liftp W P1 := by
  simp only [k0_pay84, k0_pay82, k0_pay83, absf_lift, cmpf_lift]
  rfl

/-- Its second comparison: the third row's first entry exceeds both others. -/
theorem pay85_lift : k0_pay85 (lift W (cov 0 0)) (lift W (cov 0 1)) (lift W (cov 0 2)) = liftp W P2 := by
  simp only [k0_pay85, k0_pay82, k0_pay83, absf_lift, maximumf_lift, cmpf_lift]
  rfl

/-- The first pivot. -/
theorem pay86_lift : k0_pay86 (lift W (cov 0 0)) (lift W (cov 0 1)) (lift W (cov 0 2)) = lift W (top 0) := by
  simp only [k0_pay86, pay84_lift, pay85_lift, select_lift]
  congr 1; funext x
  simp only [top, cov_symm 1 0 x, cov_symm 2 0 x]

/-- The last square of the third channel. -/
def sq9 (x : Win) : ℝ := pix 2 8 x * pix 2 8 x

/-- The first eight squares of the third channel, added in pairs. -/
def sq8 (x : Win) : ℝ :=
  pix 2 0 x * pix 2 0 x + pix 2 1 x * pix 2 1 x + (pix 2 2 x * pix 2 2 x + pix 2 3 x * pix 2 3 x)
    + (pix 2 4 x * pix 2 4 x + pix 2 5 x * pix 2 5 x + (pix 2 6 x * pix 2 6 x + pix 2 7 x * pix 2 7 x))

/-- The named constant broadcast: a ninth. -/
theorem broadcast_ninth :
    broadcast S222x222 (Named.named κ "ninth" 0x3DE38E39#32 : Ideal .f32) = lift W (fun _ => 1 / 9) :=
  funext fun _ => IdealRules.named_const.ideal_named_scalar _ _ _ _ rfl

/-- A covariance entry off the diagonal from its pixel products, added as the kernel adds them. -/
theorem cov_tree (i k : Fin 3) (h : i ≠ k) (x : Win) :
    (pix i 0 x * pix k 0 x + pix i 1 x * pix k 1 x + (pix i 2 x * pix k 2 x + pix i 3 x * pix k 3 x)
      + (pix i 4 x * pix k 4 x + pix i 5 x * pix k 5 x + (pix i 6 x * pix k 6 x + pix i 7 x * pix k 7 x))
      + pix i 8 x * pix k 8 x) * (1 / 9) - mean i x * mean k x = cov i k x := by
  simp only [cov, pix, Fin.sum_univ_succ, Fin.sum_univ_zero, if_neg h]
  simp
  ring

/-- A covariance entry on the diagonal from its pixel products, added as the kernel adds them. -/
theorem cov_tree_diag (i : Fin 3) (x : Win) :
    (pix i 0 x * pix i 0 x + pix i 1 x * pix i 1 x + (pix i 2 x * pix i 2 x + pix i 3 x * pix i 3 x)
      + (pix i 4 x * pix i 4 x + pix i 5 x * pix i 5 x + (pix i 6 x * pix i 6 x + pix i 7 x * pix i 7 x))
      + pix i 8 x * pix i 8 x) * (1 / 9) - mean i x * mean i x + delta = cov i i x := by
  simp only [cov, pix, Fin.sum_univ_succ, Fin.sum_univ_zero]
  simp
  ring

/-- The third channel's own covariance, from its mean and its nine squares. -/
theorem pay81_lift : k0_pay81 (lift W (mean 2)) (lift W sq9) (lift W sq8) = lift W (cov 2 2) := by
  simp only [k0_pay81, addf_lift, subf_lift, mulf_lift, broadcast_ninth (W := W), broadcast_delta (W := W)]
  congr 1; funext x
  exact cov_tree_diag 2 x

/-- The pivot row's second entry. -/
theorem pay87_lift : k0_pay87 (lift W (cov 0 0)) (lift W (cov 0 1)) (lift W (cov 0 2)) (lift W (cov 1 1)) (lift W (cov 1 2)) = lift W (top 1) := by
  simp only [k0_pay87, pay84_lift, pay85_lift, select_lift]
  congr 1; funext x
  simp only [top, cov_symm 1 0 x, cov_symm 2 0 x, cov_symm 2 1 x]

/-- The pivot row's third entry. -/
theorem pay88_lift : k0_pay88 (lift W (mean 2)) (lift W (cov 0 0)) (lift W (cov 0 1)) (lift W (cov 0 2)) (lift W (cov 1 2)) (lift W sq9) (lift W sq8) = lift W (top 2) := by
  simp only [k0_pay88, pay84_lift, pay85_lift, select_lift, pay81_lift]
  rfl

/-- The number of the row chosen first. -/
theorem pay92_lift : k0_pay92 (lift W (cov 0 0)) (lift W (cov 0 1)) (lift W (cov 0 2)) = lifti W q0 := by
  simp only [k0_pay92, k0_pay91, k0_pay90, k0_pay89, broadcast_word (W := W), addi_lift, pay84_lift, pay85_lift, select_lifti]
  rfl

/-- The second pivot's row number before the second exchange. -/
def r1 (x : Win) : BitVec 32 := if P1 x ∧ ¬ P2 x then 0#32 else 1#32

/-- The third row's number before the second exchange. -/
def r2 (x : Win) : BitVec 32 := if P2 x then 0#32 else 2#32

/-- The number of the row left second. -/
theorem pay93_lift : k0_pay93 (lift W (cov 0 0)) (lift W (cov 0 1)) (lift W (cov 0 2)) = lifti W r1 := by
  simp only [k0_pay93, k0_pay91, k0_pay90, k0_pay89, broadcast_word (W := W), addi_lift, select_lifti, pay84_lift, pay85_lift, select_lift, xori_lift, andi_lift]
  congr 1; funext x
  simp only [r1]
  congr

/-- The number of the row left third. -/
theorem pay94_lift : k0_pay94 (lift W (cov 0 0)) (lift W (cov 0 1)) (lift W (cov 0 2)) = lifti W r2 := by
  simp only [k0_pay94, k0_pay91, k0_pay90, k0_pay89, broadcast_word (W := W), addi_lift, select_lifti, pay84_lift, pay85_lift, select_lift, xori_lift, andi_lift]
  rfl

/-- The second row's multiplier. -/
theorem pay95_lift : k0_pay95 (lift W (cov 0 0)) (lift W (cov 0 1)) (lift W (cov 0 2)) = lift W mulM := by
  simp only [k0_pay95, pay84_lift, pay85_lift, select_lift, xori_lift, andi_lift, divf_lift top_ne, pay86_lift]
  congr 1; funext x
  simp only [mulM, mid, cov_symm 1 0 x, cov_symm 2 0 x, cov_symm 2 1 x]
  congr

/-- The third row's multiplier. -/
theorem pay96_lift : k0_pay96 (lift W (cov 0 0)) (lift W (cov 0 1)) (lift W (cov 0 2)) = lift W mulB := by
  simp only [k0_pay96, pay84_lift, pay85_lift, select_lift, xori_lift, andi_lift, divf_lift top_ne, pay86_lift]
  congr 1; funext x
  simp only [mulB, bot, cov_symm 1 0 x, cov_symm 2 0 x, cov_symm 2 1 x]

/-- The second row's second entry after one step. -/
theorem pay97_lift : k0_pay97 (lift W (cov 0 0)) (lift W (cov 0 1)) (lift W (cov 0 2)) (lift W (cov 1 1)) (lift W (cov 1 2)) = lift W (stepM 1) := by
  simp only [k0_pay97, pay84_lift, pay85_lift, select_lift, xori_lift, andi_lift, pay95_lift, pay87_lift, addf_lift, subf_lift, mulf_lift]
  congr 1; funext x
  simp only [stepM, mid, cov_symm 1 0 x, cov_symm 2 0 x, cov_symm 2 1 x]
  congr

/-- The second row's third entry after one step. -/
theorem pay98_lift : k0_pay98 (lift W (mean 2)) (lift W (cov 0 0)) (lift W (cov 0 1)) (lift W (cov 0 2)) (lift W (cov 1 2)) (lift W sq9) (lift W sq8) = lift W (stepM 2) := by
  simp only [k0_pay98, pay84_lift, pay85_lift, select_lift, xori_lift, andi_lift, pay95_lift, pay88_lift, addf_lift, subf_lift, mulf_lift]
  congr 1; funext x
  simp only [stepM, mid, cov_symm 1 0 x, cov_symm 2 0 x, cov_symm 2 1 x]
  congr

/-- The third row's second entry after one step. -/
theorem pay99_lift : k0_pay99 (lift W (cov 0 0)) (lift W (cov 0 1)) (lift W (cov 0 2)) (lift W (cov 1 1)) (lift W (cov 1 2)) = lift W (stepB 1) := by
  simp only [k0_pay99, pay84_lift, pay85_lift, select_lift, xori_lift, andi_lift, pay96_lift, pay87_lift, addf_lift, subf_lift, mulf_lift]
  congr 1; funext x
  simp only [stepB, bot, cov_symm 1 0 x, cov_symm 2 0 x, cov_symm 2 1 x]

/-- The third row's third entry after one step. -/
theorem pay100_lift : k0_pay100 (lift W (mean 2)) (lift W (cov 0 0)) (lift W (cov 0 1)) (lift W (cov 0 2)) (lift W (cov 1 2)) (lift W sq9) (lift W sq8) = lift W (stepB 2) := by
  simp only [k0_pay100, pay84_lift, pay85_lift, select_lift, xori_lift, andi_lift, pay96_lift, pay88_lift, pay81_lift, addf_lift, subf_lift, mulf_lift]
  rfl

/-- The magnitude of the third row's second entry. -/
def absB (x : Win) : ℝ := |stepB 1 x|

/-- The magnitude of the second row's second entry. -/
def absM (x : Win) : ℝ := |stepM 1 x|

/-- The size of the third row's candidate for the second pivot. -/
theorem pay101_lift : k0_pay101 (lift W (cov 0 0)) (lift W (cov 0 1)) (lift W (cov 0 2)) (lift W (cov 1 1)) (lift W (cov 1 2)) = lift W absB := by
  simp only [k0_pay101, pay99_lift, absf_lift]
  rfl

/-- The size of the second row's candidate for the second pivot. -/
theorem pay102_lift : k0_pay102 (lift W (cov 0 0)) (lift W (cov 0 1)) (lift W (cov 0 2)) (lift W (cov 1 1)) (lift W (cov 1 2)) = lift W absM := by
  simp only [k0_pay102, pay97_lift, absf_lift]
  rfl

/-- The comparison of the two candidates. -/
theorem pay103_lift : k0_pay103 (lift W absB) (lift W absM) = liftp W P3 := by
  simp only [k0_pay103, cmpf_lift]
  rfl

/-- The second pivot. -/
theorem pay104_lift : k0_pay104 (lift W (stepM 1)) (lift W (stepB 1)) (lift W absB) (lift W absM) = lift W (piv 1) := by
  simp only [k0_pay104, pay103_lift, select_lift]
  rfl

/-- The entry to the right of the second pivot. -/
theorem pay105_lift : k0_pay105 (lift W (stepM 2)) (lift W (stepB 2)) (lift W absB) (lift W absM) = lift W (piv 2) := by
  simp only [k0_pay105, pay103_lift, select_lift]
  rfl

/-- The second pivot row's multiplier of the first pivot. -/
theorem pay106_lift : k0_pay106 (lift W mulM) (lift W mulB) (lift W absB) (lift W absM) = lift W mulP := by
  simp only [k0_pay106, pay103_lift, select_lift]
  rfl

/-- The number of the row chosen second. -/
theorem pay107_lift : k0_pay107 (lifti W r1) (lifti W r2) (lift W absB) (lift W absM) = lifti W q1 := by
  simp only [k0_pay107, pay103_lift, select_lifti]
  rfl

/-- The last row's multiplier of the second pivot. -/
theorem pay108_lift : k0_pay108 (lift W (stepM 1)) (lift W (stepB 1)) (lift W absB) (lift W absM) = lift W mulS := by
  simp only [k0_pay108, pay103_lift, select_lift, pay104_lift, divf_lift piv_ne]
  rfl

/-- The second row of the lower inverse, first entry. -/
def low10 (x : Win) : ℝ := 0 - mulP x

/-- The third row of the lower inverse, first entry. -/
def low20 (x : Win) : ℝ := mulP x * mulS x - mulL x

/-- The third row of the lower inverse, second entry. -/
def low21 (x : Win) : ℝ := 0 - mulS x

/-- The reciprocals of the pivots. -/
def rtop (x : Win) : ℝ := 1 / top 0 x

/-- The second pivot's reciprocal. -/
def rpiv (x : Win) : ℝ := 1 / piv 1 x

/-- The last pivot's reciprocal. -/
def rlast (x : Win) : ℝ := 1 / last x

/-- The upper inverse's entries off the diagonal. -/
def upp01 (x : Win) : ℝ := 0 - top 1 x / top 0 x * (1 / piv 1 x)

/-- The top right entry of the upper triangle's inverse. -/
def upp02 (x : Win) : ℝ := (top 1 x / top 0 x * (piv 2 x / piv 1 x) - top 2 x / top 0 x) * (1 / last x)

/-- The entry below it, in the second row. -/
def upp12 (x : Win) : ℝ := 0 - piv 2 x / piv 1 x * (1 / last x)

/-- The lower triangle's inverse: second row, first column. -/
theorem pay109_lift : k0_pay109 (lift W mulM) (lift W mulB) (lift W absB) (lift W absM) = lift W low10 := by
  simp only [k0_pay109, broadcast_zero (W := W), pay106_lift, addf_lift, subf_lift, mulf_lift]
  rfl

/-- The lower triangle's inverse: third row, first column. -/
theorem pay110_lift : k0_pay110 (lift W mulM) (lift W mulB) (lift W (stepM 1)) (lift W (stepB 1)) (lift W absB) (lift W absM) = lift W low20 := by
  simp only [k0_pay110, pay103_lift, select_lift, pay106_lift, pay108_lift, addf_lift, subf_lift, mulf_lift]
  rfl

/-- The lower triangle's inverse: third row, second column. -/
theorem pay111_lift : k0_pay111 (lift W (stepM 1)) (lift W (stepB 1)) (lift W absB) (lift W absM) = lift W low21 := by
  simp only [k0_pay111, broadcast_zero (W := W), pay108_lift, addf_lift, subf_lift, mulf_lift]
  rfl

/-- The first pivot's reciprocal, as the kernel divides. -/
theorem pay112_lift : k0_pay112 (lift W (top 0)) = lift W rtop := by
  simp only [k0_pay112, broadcast_one (W := W), divf_lift top_ne]
  rfl

/-- The second pivot's reciprocal, as the kernel divides. -/
theorem pay113_lift : k0_pay113 (lift W (stepM 1)) (lift W (stepB 1)) (lift W absB) (lift W absM) = lift W rpiv := by
  simp only [k0_pay113, broadcast_one (W := W), pay104_lift, divf_lift piv_ne]
  rfl

/-- The last pivot's reciprocal, as the kernel divides. -/
theorem pay114_lift : k0_pay114 (lift W (stepM 1)) (lift W (stepM 2)) (lift W (stepB 1)) (lift W (stepB 2)) (lift W absB) (lift W absM) = lift W rlast := by
  simp only [k0_pay114, broadcast_one (W := W), pay108_lift, pay105_lift, pay103_lift, select_lift, addf_lift, subf_lift, mulf_lift]
  rw [divf_lift (fun x => by simpa only [last, low] using last_ne x)]
  rfl

/-- The upper triangle's inverse: first row, second column. -/
theorem pay117_lift : k0_pay117 (lift W (top 0)) (lift W (top 1)) (lift W (stepM 1)) (lift W (stepB 1)) (lift W absB) (lift W absM) = lift W upp01 := by
  simp only [k0_pay117, broadcast_zero (W := W), k0_pay115, pay113_lift, divf_lift top_ne, addf_lift, subf_lift, mulf_lift]
  rfl

/-- The second pivot row scaled by its pivot. -/
theorem pay116_lift : k0_pay116 (lift W (stepM 1)) (lift W (stepM 2)) (lift W (stepB 1)) (lift W (stepB 2)) (lift W absB) (lift W absM) = lift W (fun x => piv 2 x / piv 1 x) := by
  simp only [k0_pay116, pay105_lift, pay104_lift, divf_lift piv_ne]

/-- The upper triangle's inverse: first row, third column. -/
theorem pay118_lift : k0_pay118 (lift W (top 0)) (lift W (top 1)) (lift W (top 2)) (lift W (stepM 1)) (lift W (stepM 2)) (lift W (stepB 1)) (lift W (stepB 2)) (lift W absB) (lift W absM) = lift W upp02 := by
  simp only [k0_pay118, k0_pay115, pay116_lift, pay114_lift, divf_lift top_ne, addf_lift, subf_lift, mulf_lift]
  rfl

/-- The upper triangle's inverse: second row, third column. -/
theorem pay119_lift : k0_pay119 (lift W (stepM 1)) (lift W (stepM 2)) (lift W (stepB 1)) (lift W (stepB 2)) (lift W absB) (lift W absM) = lift W upp12 := by
  simp only [k0_pay119, broadcast_zero (W := W), pay116_lift, pay114_lift, addf_lift, subf_lift, mulf_lift]
  rfl

/-- The first product of the inverse's first entry. -/
def prod00 (x : Win) : ℝ := rtop x * if q0 x = 0#32 then 1 else if q1 x = 0#32 then 0 else 0

/-- The first product of the inverse's top left entry. -/
theorem pay120_lift : k0_pay120 (lift W (top 0)) (lifti W q0) (lifti W r1) (lifti W r2) (lift W absB) (lift W absM) = lift W prod00 := by
  simp only [k0_pay120, pay107_lift, pay112_lift, addf_lift, subf_lift, mulf_lift, cmpi_lift, select_lift, select_lifti, broadcast_word (W := W), broadcast_zero (W := W), broadcast_one (W := W), round_trip]
  congr 1; funext x
  simp only [prod00]
  congr

/-- The array of zeros. -/
theorem pay122_lift : k0_pay122 (F := Ideal) = lift W (fun _ => 0) := by
  simp only [k0_pay122, broadcast_zero (W := W)]

/-- Whether the first row was chosen first. -/
theorem pay123_lift : k0_pay123 (lifti W q0) = liftp W (fun x => q0 x = 0#32) := by
  simp only [k0_pay123, k0_pay121, broadcast_word (W := W), cmpi_lift]

/-- Whether the first row was chosen second. -/
theorem pay124_lift : k0_pay124 (lifti W r1) (lifti W r2) (lift W absB) (lift W absM) = liftp W (fun x => q1 x = 0#32) := by
  simp only [k0_pay124, k0_pay121, pay107_lift, broadcast_word (W := W), cmpi_lift]

/-- Whether the third row was chosen first. -/
theorem pay128_lift : k0_pay128 (lifti W q0) = liftp W (fun x => q0 x = 2#32) := by
  simp only [k0_pay128, k0_pay127, broadcast_word (W := W), cmpi_lift]

/-- The lower triangle's first row off its diagonal is zero. -/
theorem pay129_lift : k0_pay129 (lifti W q1) = lift W (fun _ => 0) := by
  simp only [k0_pay129, k0_pay127, addf_lift, subf_lift, mulf_lift, cmpi_lift, select_lift, select_lifti, broadcast_word (W := W), broadcast_zero (W := W), broadcast_one (W := W), round_trip, ite_self]

/-- The second row's part of the lower inverse's column for original row one. -/
def col11 (x : Win) : ℝ := if q0 x = 1#32 then low10 x else if q1 x = 1#32 then 1 else 0

/-- The second row of the lower triangle's inverse, at the original second column. -/
theorem pay132_lift : k0_pay132 (lifti W q0) (lifti W q1) (lift W low10) = lift W col11 := by
  simp only [k0_pay132, addf_lift, subf_lift, mulf_lift, cmpi_lift, select_lift, select_lifti, broadcast_word (W := W), broadcast_zero (W := W), broadcast_one (W := W), round_trip]
  congr 1; funext x
  simp only [col11]
  congr

/-- The array of twos. -/
theorem pay137_lift : k0_pay137 = lifti W (fun _ => 2#32) := rfl

/-! The nine entries of the inverse. -/

/-- Row 0, column 0 of the inverse covariance. -/
theorem pay125_lift : k0_pay125 (lifti W q0) (lifti W q1) (lift W low10) (lift W low20) (lift W low21) (lift W upp01) (lift W upp02) (lift W prod00) (lift W (fun _ => 0)) (liftp W (fun x => q0 x = 0#32)) (liftp W (fun x => q1 x = 0#32)) (Scalar.ofBits .f32 0x3F800000#32 : Ideal .f32) = lift W (inv 0 0) := by
  simp only [k0_pay125, addf_lift, subf_lift, mulf_lift, cmpi_lift, select_lift, select_lifti, broadcast_word (W := W), broadcast_zero (W := W), broadcast_one (W := W), round_trip]
  congr 1; funext x
  rw [← elim_eq 0 0 x]
  simp only [elim, place, Fin.sum_univ_three, Fin.val_zero, Fin.val_one, Fin.val_two]
  by_cases h0 : q0 x = 0#32 <;> by_cases h1 : q1 x = 0#32 <;>
    simp [prod00, h0, h1, uinv, linv, rtop, rpiv, rlast, upp01, upp02, upp12, low10, low20, low21]

/-- Row 0, column 1 of the inverse covariance. -/
theorem pay126_lift : k0_pay126 (lifti W q0) (lifti W q1) (lift W low10) (lift W low20) (lift W low21) (lift W rtop) (lift W upp01) (lift W upp02) = lift W (inv 0 1) := by
  simp only [k0_pay126, addf_lift, subf_lift, mulf_lift, cmpi_lift, select_lift, select_lifti, broadcast_word (W := W), broadcast_zero (W := W), broadcast_one (W := W), round_trip]
  congr 1; funext x
  rw [← elim_eq 0 1 x]
  simp only [elim, place, Fin.sum_univ_three, Fin.val_zero, Fin.val_one, Fin.val_two]
  by_cases h0 : q0 x = 1#32 <;> by_cases h1 : q1 x = 1#32 <;>
    simp [h0, h1, uinv, linv, rtop, rpiv, rlast, upp01, upp02, upp12, low10, low20, low21]

/-- Row 0, column 2 of the inverse covariance. -/
theorem pay130_lift : k0_pay130 (lifti W q0) (lifti W q1) (lift W low10) (lift W low20) (lift W low21) (lift W rtop) (lift W upp01) (lift W upp02) (liftp W (fun x => q0 x = 2#32)) (lift W (fun _ => 0)) (Scalar.ofBits .f32 0x3F800000#32 : Ideal .f32) = lift W (inv 0 2) := by
  simp only [k0_pay130, addf_lift, subf_lift, mulf_lift, cmpi_lift, select_lift, select_lifti, broadcast_word (W := W), broadcast_zero (W := W), broadcast_one (W := W), round_trip]
  congr 1; funext x
  rw [← elim_eq 0 2 x]
  simp only [elim, place, Fin.sum_univ_three, Fin.val_zero, Fin.val_one, Fin.val_two]
  by_cases h0 : q0 x = 2#32 <;> by_cases h1 : q1 x = 2#32 <;>
    simp [h0, h1, uinv, linv, rtop, rpiv, rlast, upp01, upp02, upp12, low10, low20, low21]

/-- Row 1, column 0 of the inverse covariance. -/
theorem pay131_lift : k0_pay131 (lifti W q0) (lifti W q1) (lift W low10) (lift W low20) (lift W low21) (lift W rpiv) (lift W upp12) = lift W (inv 1 0) := by
  simp only [k0_pay131, addf_lift, subf_lift, mulf_lift, cmpi_lift, select_lift, select_lifti, broadcast_word (W := W), broadcast_zero (W := W), broadcast_one (W := W), round_trip]
  congr 1; funext x
  rw [← elim_eq 1 0 x]
  simp only [elim, place, Fin.sum_univ_three, Fin.val_zero, Fin.val_one, Fin.val_two]
  by_cases h0 : q0 x = 0#32 <;> by_cases h1 : q1 x = 0#32 <;>
    simp [h0, h1, uinv, linv, rtop, rpiv, rlast, upp01, upp02, upp12, low10, low20, low21]

/-- Row 1, column 1 of the inverse covariance. -/
theorem pay133_lift : k0_pay133 (lifti W q0) (lifti W q1) (lift W low20) (lift W low21) (lift W rpiv) (lift W upp12) (lift W col11) = lift W (inv 1 1) := by
  simp only [k0_pay133, addf_lift, subf_lift, mulf_lift, cmpi_lift, select_lift, select_lifti, broadcast_word (W := W), broadcast_zero (W := W), broadcast_one (W := W), round_trip]
  congr 1; funext x
  rw [← elim_eq 1 1 x]
  simp only [elim, place, Fin.sum_univ_three, Fin.val_zero, Fin.val_one, Fin.val_two]
  by_cases h0 : q0 x = 1#32 <;> by_cases h1 : q1 x = 1#32 <;>
    simp [col11, h0, h1, uinv, linv, rtop, rpiv, rlast, upp01, upp02, upp12, low10, low20, low21]

/-- Row 1, column 2 of the inverse covariance. -/
theorem pay134_lift : k0_pay134 (lifti W q0) (lifti W q1) (lift W low10) (lift W low20) (lift W low21) (lift W rpiv) (lift W upp12) = lift W (inv 1 2) := by
  simp only [k0_pay134, addf_lift, subf_lift, mulf_lift, cmpi_lift, select_lift, select_lifti, broadcast_word (W := W), broadcast_zero (W := W), broadcast_one (W := W), round_trip]
  congr 1; funext x
  rw [← elim_eq 1 2 x]
  simp only [elim, place, Fin.sum_univ_three, Fin.val_zero, Fin.val_one, Fin.val_two]
  by_cases h0 : q0 x = 2#32 <;> by_cases h1 : q1 x = 2#32 <;>
    simp [h0, h1, uinv, linv, rtop, rpiv, rlast, upp01, upp02, upp12, low10, low20, low21]

/-- Row 2, column 0 of the inverse covariance. -/
theorem pay135_lift : k0_pay135 (lifti W q0) (lifti W q1) (lift W low20) (lift W low21) (lift W rlast) = lift W (inv 2 0) := by
  simp only [k0_pay135, addf_lift, subf_lift, mulf_lift, cmpi_lift, select_lift, select_lifti, broadcast_word (W := W), broadcast_zero (W := W), broadcast_one (W := W), round_trip]
  congr 1; funext x
  rw [← elim_eq 2 0 x]
  simp only [elim, place, Fin.sum_univ_three, Fin.val_zero, Fin.val_one, Fin.val_two]
  by_cases h0 : q0 x = 0#32 <;> by_cases h1 : q1 x = 0#32 <;>
    simp [h0, h1, uinv, linv, rtop, rpiv, rlast, upp01, upp02, upp12, low10, low20, low21]

/-- Row 2, column 1 of the inverse covariance. -/
theorem pay136_lift : k0_pay136 (lifti W q0) (lifti W q1) (lift W low20) (lift W low21) (lift W rlast) = lift W (inv 2 1) := by
  simp only [k0_pay136, addf_lift, subf_lift, mulf_lift, cmpi_lift, select_lift, select_lifti, broadcast_word (W := W), broadcast_zero (W := W), broadcast_one (W := W), round_trip]
  congr 1; funext x
  rw [← elim_eq 2 1 x]
  simp only [elim, place, Fin.sum_univ_three, Fin.val_zero, Fin.val_one, Fin.val_two]
  by_cases h0 : q0 x = 1#32 <;> by_cases h1 : q1 x = 1#32 <;>
    simp [h0, h1, uinv, linv, rtop, rpiv, rlast, upp01, upp02, upp12, low10, low20, low21]

/-- Row 2, column 2 of the inverse covariance. -/
theorem pay138_lift : k0_pay138 (lifti W q0) (lifti W q1) (lift W low20) (lift W low21) (lift W rlast) (lifti W (fun _ => 2#32)) = lift W (inv 2 2) := by
  simp only [k0_pay138, addf_lift, subf_lift, mulf_lift, cmpi_lift, select_lift, select_lifti, broadcast_word (W := W), broadcast_zero (W := W), broadcast_one (W := W), round_trip]
  congr 1; funext x
  rw [← elim_eq 2 2 x]
  simp only [elim, place, Fin.sum_univ_three, Fin.val_zero, Fin.val_one, Fin.val_two]
  by_cases h0 : q0 x = 2#32 <;> by_cases h1 : q1 x = 2#32 <;>
    simp [h0, h1, uinv, linv, rtop, rpiv, rlast, upp01, upp02, upp12, low10, low20, low21]

end Cert.KernelIdeal.Value

end
-- ==== Proof.Blocks.lean ====
/- The kernel's remaining steps on lifted arrays: pixels from a plane's slices, means, covariance entries, deviations,
   projections, moments, and each pixel's contribution. -/
module

public import proofs.«01_k».proof.Proof.Elim
public import Idealize.ShloMosaic.Lib.Pointwise
@[expose] public section

set_option maxRecDepth 16384

noncomputable section

open Idealize.ShloMosaic
open scoped Classical

namespace Cert.KernelIdeal.Value

open Cert.Loss Cert.KernelIdeal Cert.KernelIdeal.Gen

variable {W : S222x222.Idx → Win}

/-- A channel's pixels added as the kernel adds them. -/
theorem fold_tot (c : Fin 3) :
    addf (addf (addf (addf (lift W (pix c 0)) (lift W (pix c 8))) (lift W (pix c 4))) (addf (lift W (pix c 2)) (lift W (pix c 6))))
      (addf (addf (lift W (pix c 1)) (lift W (pix c 5))) (addf (lift W (pix c 3)) (lift W (pix c 7)))) = lift W (tot c) := by
  simp only [addf_lift]
  congr 1; funext x
  simp only [tot, pix, Fin.sum_univ_succ, Fin.sum_univ_zero]
  simp
  ring

/-- A ninth of a channel's sum. -/
theorem fold_mean (c : Fin 3) :
    mulf (lift W (tot c)) (broadcast S222x222 (Named.named κ "ninth" 0x3DE38E39#32 : Ideal .f32)) = lift W (mean c) := by
  simp only [broadcast_ninth (W := W), mulf_lift]
  congr 1; funext x
  simp only [mean, mul_one_div]

/-- A pixel less its channel's mean. -/
theorem fold_dev (c : Fin 3) (j : Fin 9) : subf (lift W (pix c j)) (lift W (mean c)) = lift W (dev c j) := by
  simp only [subf_lift]
  rfl

/-- A covariance entry off the diagonal. -/
theorem fold_cov (i k : Fin 3) (h : i ≠ k) :
    subf (mulf (addf (addf
      (addf (addf (mulf (lift W (pix i 0)) (lift W (pix k 0))) (mulf (lift W (pix i 1)) (lift W (pix k 1))))
        (addf (mulf (lift W (pix i 2)) (lift W (pix k 2))) (mulf (lift W (pix i 3)) (lift W (pix k 3)))))
      (addf (addf (mulf (lift W (pix i 4)) (lift W (pix k 4))) (mulf (lift W (pix i 5)) (lift W (pix k 5))))
        (addf (mulf (lift W (pix i 6)) (lift W (pix k 6))) (mulf (lift W (pix i 7)) (lift W (pix k 7))))))
      (mulf (lift W (pix i 8)) (lift W (pix k 8))))
      (broadcast S222x222 (Named.named κ "ninth" 0x3DE38E39#32 : Ideal .f32))) (mulf (lift W (mean i)) (lift W (mean k)))
      = lift W (cov i k) := by
  simp only [broadcast_ninth (W := W), addf_lift, mulf_lift, subf_lift]
  congr 1; funext x
  exact cov_tree i k h x

/-- A covariance entry on the diagonal, with the regulariser. -/
theorem fold_cov_diag (i : Fin 3) :
    addf (subf (mulf (addf (addf
      (addf (addf (mulf (lift W (pix i 0)) (lift W (pix i 0))) (mulf (lift W (pix i 1)) (lift W (pix i 1))))
        (addf (mulf (lift W (pix i 2)) (lift W (pix i 2))) (mulf (lift W (pix i 3)) (lift W (pix i 3)))))
      (addf (addf (mulf (lift W (pix i 4)) (lift W (pix i 4))) (mulf (lift W (pix i 5)) (lift W (pix i 5))))
        (addf (mulf (lift W (pix i 6)) (lift W (pix i 6))) (mulf (lift W (pix i 7)) (lift W (pix i 7))))))
      (mulf (lift W (pix i 8)) (lift W (pix i 8))))
      (broadcast S222x222 (Named.named κ "ninth" 0x3DE38E39#32 : Ideal .f32))) (mulf (lift W (mean i)) (lift W (mean i))))
      (broadcast S222x222 (Scalar.ofBits .f32 0x323EE32F#32 : Ideal .f32)) = lift W (cov i i) := by
  simp only [broadcast_ninth (W := W), broadcast_delta (W := W), addf_lift, mulf_lift, subf_lift]
  congr 1; funext x
  exact cov_tree_diag i x

/-- The third channel's squares. -/
theorem pay79_lift : k0_pay79 (lift W (pix 2 8)) = lift W sq9 := by
  simp only [k0_pay79, mulf_lift]
  rfl

/-- The third channel's other eight squares, added. -/
theorem pay80_lift : k0_pay80 (lift W (pix 2 0)) (lift W (pix 2 1)) (lift W (pix 2 2)) (lift W (pix 2 3)) (lift W (pix 2 4))
    (lift W (pix 2 5)) (lift W (pix 2 6)) (lift W (pix 2 7)) = lift W sq8 := by
  simp only [k0_pay80, mulf_lift, addf_lift]
  rfl

/-- A row of deviations times a column of the inverse. -/
theorem fold_proj (j : Fin 9) (k : Fin 3) :
    addf (addf (mulf (lift W (dev 0 j)) (lift W (inv 0 k))) (mulf (lift W (dev 1 j)) (lift W (inv 1 k))))
      (mulf (lift W (dev 2 j)) (lift W (inv 2 k))) = lift W (proj j k) := by
  simp only [addf_lift, mulf_lift]
  congr 1; funext x
  simp only [proj, Fin.sum_univ_three]

/-- Deviations against pixels, added as the kernel adds them. -/
theorem fold_mom (c k : Fin 3) :
    addf (addf
      (addf (addf (mulf (lift W (dev k 0)) (lift W (pix c 0))) (mulf (lift W (dev k 1)) (lift W (pix c 1))))
        (addf (mulf (lift W (dev k 2)) (lift W (pix c 2))) (mulf (lift W (dev k 3)) (lift W (pix c 3)))))
      (addf (addf (mulf (lift W (dev k 4)) (lift W (pix c 4))) (mulf (lift W (dev k 5)) (lift W (pix c 5))))
        (addf (mulf (lift W (dev k 6)) (lift W (pix c 6))) (mulf (lift W (dev k 7)) (lift W (pix c 7))))))
      (mulf (lift W (dev k 8)) (lift W (pix c 8))) = lift W (mom c k) := by
  simp only [addf_lift, mulf_lift]
  congr 1; funext x
  simp only [mom, pix, Fin.sum_univ_succ, Fin.sum_univ_zero]
  simp
  ring

/-- A row of projections against the moments. -/
theorem fold_fit (c : Fin 3) (j : Fin 9) :
    addf (addf (mulf (lift W (proj j 0)) (lift W (mom c 0))) (mulf (lift W (proj j 1)) (lift W (mom c 1))))
      (mulf (lift W (proj j 2)) (lift W (mom c 2))) = lift W (fit c j) := by
  simp only [addf_lift, mulf_lift]
  congr 1; funext x
  simp only [fit, Fin.sum_univ_three]

/-- One pixel's contribution. -/
def term (c : Fin 3) (j : Fin 9) (x : Win) : ℝ := resid c j x * x c j

/-- A pixel's residual times the pixel. -/
theorem fold_term (c : Fin 3) (j : Fin 9) :
    mulf (subf (lift W (pix c j)) (mulf (addf (lift W (tot c)) (lift W (fit c j)))
      (broadcast S222x222 (Named.named κ "ninth" 0x3DE38E39#32 : Ideal .f32)))) (lift W (pix c j)) = lift W (term c j) := by
  simp only [broadcast_ninth (W := W), addf_lift, mulf_lift, subf_lift]
  congr 1; funext x
  simp only [term, resid, pix, mul_one_div]

/-- The contributions of a window add up to its loss. -/
theorem sum_term (x : Win) : ∑ c, ∑ j, term c j x = loss x := rfl

/-- A plane of real pixels. -/
def plane (p : ℕ → ℕ → ℕ → ℝ) (c : Fin 3) : Vec Ideal S1x224x224 .f32 :=
  fun i => ((p c.val (i 1).val (i 2).val : ℝ) : EReal)

/-- The window whose first pixel is at an index. -/
def winOf (p : ℕ → ℕ → ℕ → ℝ) (i : S222x222.Idx) : Win :=
  fun c j => p c.val ((i 0).val + j.val / 3) ((i 1).val + j.val % 3)

/-- A slice of a plane holds one pixel of every window. -/
theorem slice_plane (p : ℕ → ℕ → ℕ → ℝ) (c : Fin 3) (a b : ℕ) (j : Fin 9) (ha : j.val / 3 = a) (hb : j.val % 3 = b)
    (h : S1x224x224.ShapeCasts S224x224) (h' : S224x224.Slices ![a, b] S222x222) :
    extractStridedSlice S222x222 ![a, b] (shapeCast S224x224 (plane p c) h) h' = lift (winOf p) (pix c j) := by
  subst ha hb
  funext i
  idx_vars i
  pointwise [plane, lift, winOf, pix]
  rw [Nat.add_comm (j.val / 3), Nat.add_comm (j.val % 3)]

/-- The sum over the windows, read out of the last array. -/
theorem total_lift (f : Win → ℝ) :
    extractAt ![0, 0, 0] (shapeCast S1x1x1 (multiReduction .add [1, 2] S1 (shapeCast S1x222x222 (lift W f)
      shapeCasts_S222x222_S1x222x222) 0x00000000#32 reduces_S1x222x222_S1 (.inl rfl) rfl) shapeCasts_S1_S1x1x1)
      inpos_S1x1x1_p0_0_0 = ((∑ a : Fin 222, ∑ b : Fin 222, f (W (ix2 a b)) : ℝ) : EReal) := by
  pointwise [lift]
  simp only [coe_sum]

end Cert.KernelIdeal.Value

end
-- ==== Proof.Kernel.lean ====
module
public import proofs.«01_k».proof.Proof.Gen.KernelIdeal.Frame
public import proofs.«01_k».proof.Proof.Blocks
public import Idealize.ShloMosaic.Lib.Pipeline.ValueKit
public import Idealize.ShloMosaic.Lib.Pipeline.ReadBack
public import Idealize.ShloMosaic.Lib.Claim
@[expose] public section
set_option maxRecDepth 16384
noncomputable section
open Idealize.ShloMosaic Idealize.ShloMosaic.TcCoe Idealize.SL.Sem
open Idealize.ShloMosaic.Pipeline (Dat)
namespace Cert.KernelIdeal.Value
open Cert.Loss Cert.KernelIdeal Cert.KernelIdeal.Gen
variable (m : (ℓ : Loc nD τ sig) → Buf (Elt Ideal) ℓ)

/-- The 27 contributions in the kernel's order add up to the window's loss. -/
theorem term_chain (x : Win) :
    term 0 0 x + term 0 1 x + term 0 2 x + term 0 3 x + term 0 4 x + term 0 5 x + term 0 6 x + term 0 7 x + term 0 8 x + term 1 0 x + term 1 1 x + term 1 2 x + term 1 3 x + term 1 4 x + term 1 5 x + term 1 6 x + term 1 7 x + term 1 8 x + term 2 0 x + term 2 1 x + term 2 2 x + term 2 3 x + term 2 4 x + term 2 5 x + term 2 6 x + term 2 7 x + term 2 8 x = loss x := by
  rw [← sum_term]
  simp only [Fin.sum_univ_three]
  simp only [Fin.sum_univ_succ, Fin.sum_univ_zero]
  simp
  ring

/-- The block of real pixels. -/
def block (p : ℕ → ℕ → ℕ → ℝ) : Vec Ideal S3x224x224 .f32 := fun i => ((p (i 0).val (i 1).val (i 2).val : ℝ) : EReal)

/-- One plane read out of the block. -/
theorem ld_block (p : ℕ → ℕ → ℕ → ℝ) (c : Fin 3) (off : Fin 3 → ℕ) (ho : off = ![c.val, 0, 0]) (h) :
    View.ld (block p) (Rect.unit (s := S3x224x224) off ![1, 224, 224] h) = plane p c := by
  subst ho
  funext i
  idx_vars i
  pointwise [block, plane]

set_option maxHeartbeats 4000000 in
/-- The array the kernel writes holds the sum of the windows' losses. -/
theorem kernel_array (c : Dev nD) (p : ℕ → ℕ → ℕ → ℝ)
  (hp : iblk m c 0 t0_0 = block p) :
    (dats m 0 c).arrAt 1 (cfgs 0).N = fun _ => ((∑ a : Fin 222, ∑ b : Fin 222, loss (winOf p (ix2 a b)) : ℝ) : EReal) := by
  refine (dats m 0 c).arrAt_eq_of_after_last 1 t0_0 (by decide +kernel) _ fun j => ?_
  blk_simp
  rw [after0_1, outsAt0]
  frame_out
  simp only [Memref.IsWhole.read_unread, read_unread_whole]
  rw [hp]
  simp only [ld_block p 0 ![0, 0, 0] rfl, ld_block p 1 ![1, 0, 0] rfl, ld_block p 2 ![2, 0, 0] rfl]
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay1, round_trip, slice_plane p _ 0 0 0 rfl rfl, slice_plane p _ 0 1 1 rfl rfl, slice_plane p _ 0 2 2 rfl rfl, slice_plane p _ 1 0 3 rfl rfl, slice_plane p _ 1 1 4 rfl rfl, slice_plane p _ 1 2 5 rfl rfl, slice_plane p _ 2 0 6 rfl rfl, slice_plane p _ 2 1 7 rfl rfl, slice_plane p _ 2 2 8 rfl rfl,
    fold_tot, fold_mean, fold_dev, fold_cov 0 1 (by decide), fold_cov 0 2 (by decide), fold_cov 1 2 (by decide), fold_cov_diag,
    pay79_lift, pay80_lift, pay86_lift, pay87_lift, pay88_lift, pay92_lift, pay93_lift, pay94_lift, pay95_lift, pay96_lift, pay97_lift, pay98_lift, pay99_lift, pay100_lift, pay101_lift, pay102_lift, pay107_lift, pay109_lift, pay110_lift, pay111_lift, pay112_lift, pay113_lift, pay114_lift, pay117_lift, pay118_lift, pay119_lift, pay120_lift, pay123_lift, pay124_lift, pay125_lift, pay126_lift, pay128_lift, pay129_lift, pay130_lift, pay131_lift, pay132_lift, pay133_lift, pay134_lift, pay135_lift, pay136_lift, pay137_lift (W := winOf p), pay138_lift, pay122_lift (W := winOf p), fold_proj, fold_mom, fold_fit, fold_term]
  simp only [addf_lift]
  rw [total_lift]
  refine congrArg _ (Finset.sum_congr rfl fun a _ => Finset.sum_congr rfl fun b _ => ?_)
  exact term_chain _
end Cert.KernelIdeal.Value
end
-- ==== Proof.Leg.lean ====
/- The kernel program's run: its result is the sum of the windows' losses. -/
module

public import proofs.«01_k».proof.Proof.Kernel
public import Idealize.ShloMosaic.Lib.Claim
public import Idealize.ShloMosaic.Lib.Pointwise
@[expose] public section

set_option maxRecDepth 16384

noncomputable section

open Idealize.ShloMosaic Idealize.ShloMosaic.TcCoe Idealize.SL.Sem
open Idealize.ShloMosaic.Pipeline (Dat)

namespace Cert.KernelIdeal.Value

open Cert.Loss Cert.KernelIdeal Cert.KernelIdeal.Gen

variable (m : (ℓ : Loc nD τ sig) → Buf (Elt Ideal) ℓ)

/-- The image of real pixels. -/
def image (p : ℕ → ℕ → ℕ → ℝ) : Vec Ideal S1x3x224x224 .f32 := fun i => ((p (i 1).val (i 2).val (i 3).val : ℝ) : EReal)

/-- The sum of the windows' losses. -/
def total (p : ℕ → ℕ → ℕ → ℝ) : ℝ := ∑ a : Fin 222, ∑ b : Fin 222, loss (winOf p (ix2 a b))

/-- The block the kernel reads is the image's pixels. -/
theorem iblk_eq (c : Dev nD) (p : ℕ → ℕ → ℕ → ℝ) (hm : m ((c : Thread nD τ).loc main_arg0) = image p) :
    iblk m c 0 t0_0 = block p := by
  have hi : win0_0.index t0_0 = ![0, 0, 0] := by decide +kernel
  have e : iblk m c 0 t0_0 = V m c main_v0 := by
    funext j
    show _ = V m c main_v0 (j : S3x224x224.Idx)
    blk_simp [iblk]
    congr 1
    blk_ext [hi]
  rw [e]
  show StableHlo.after (List.flatten [hostOps0]) (fun b => m (c, b)) (Proc.devRef .tc main_v0) = _
  simp only [hostOps0, List.flatten_cons, List.flatten_nil, List.append_nil]
  after_results
  rw [hm]
  funext i
  idx_vars i
  pointwise [block, image]

/-- Every run of the kernel ends with the sum of the windows' losses, its argument unchanged. -/
theorem kernel_run (g : Dev nD → PrngReg) (p : Dev nD → ℕ → ℕ → ℕ → ℝ)
    (hm : ∀ c : Dev nD, m ((c : Thread nD τ).loc main_arg0) = image (p c)) :
    θ_run (defs (F := Ideal)) (onTc (τ := τ) (main (F := Ideal))) ⟨m, fun _ => 0, g⟩ (fun r => ∀ c : Dev nD,
      r.2.mem ((c.tc : Thread nD τ).loc main_v2) = (fun _ => ((total (p c) : ℝ) : EReal))
      ∧ r.2.mem ((c.tc : Thread nD τ).loc main_arg0) = m ((c.tc : Thread nD τ).loc main_arg0)) := by
  run_from Cert.KernelIdeal.Gen.run_main m g
  · unfold Pipeline.afterTail₀
    simp only [hostOps1, List.flatten_cons, List.flatten_nil, List.append_nil]
    after_results
    have e : Pipeline.withArrays (cfgs 0).spec c (V0 m c) (fun w => (dats m 0 c).arrAt w (cfgs 0).N)
        (Proc.tc.devRef main_v1) = (dats m 0 c).arrAt 1 (cfgs 0).N :=
      Pipeline.withArrays_arr spec0 (by decide) c (V0 m c) (fun w => (dats m 0 c).arrAt w (cfgs 0).N) 1
    rw [e, kernel_array m c (p c) (iblk_eq m c (p c) (hm c))]
    rfl
  · exact W_main_arg0 m (dats m) c

end Cert.KernelIdeal.Value

end
-- ==== Proof.RefIndex.lean ====
/- The reference's pixel numbers, and what its gathers read at them. -/
module

public import proofs.«01_k».proof.Proof.Window
public import proofs.«01_k».proof.Proof.Gen.ReferenceIdeal.Run
public import Idealize.ShloMosaic.Lib.Claim
public import Idealize.ShloMosaic.Lib.Pointwise
@[expose] public section

set_option maxRecDepth 16384

noncomputable section

open Idealize.ShloMosaic Idealize.ShloMosaic.TcCoe

namespace Cert.ReferenceIdeal.Value

open Cert.Loss Cert.ReferenceIdeal Cert.ReferenceIdeal.Gen

/-- The number of pixel `j` of window `n`, in row-major order over the image. -/
def number (n j : ℕ) : ℕ := (n / 222 + j / 3) * 224 + (n % 222 + j % 3)

/-- A pixel number is inside the image. -/
theorem number_lt {n j : ℕ} (hn : n < 49284) (hj : j < 9) : number n j < 50176 := by
  unfold number
  omega

/-- The array of pixel numbers. -/
theorem numbers_at (V : Valuation τ sig (Elt Ideal)) (n : Fin 49284) (j : Fin 9) :
    res_main_v9 V (ix2 n j) = BitVec.ofNat 32 (number n j) := by
  pointwise [res_main_v9, number]
  simp only [IntOp.addi, IntOp.muli, BitVec.ofNat_add, BitVec.ofNat_mul]

/-- A pixel number read as a signed word is itself. -/
theorem number_toInt {r : ℕ} (hr : r < 50176) : (BitVec.ofNat 32 r).toInt = (r : ℤ) := by
  have e : (BitVec.ofNat 32 r).toNat = r := by
    rw [BitVec.toNat_ofNat]
    exact Nat.mod_eq_of_lt (by omega)
  rw [BitVec.toInt_eq_toNat_of_lt (by omega), e]

/-- The row of pixels a window's pixel is gathered from. -/
theorem gather_row (x : Vec Ideal S50176x3 .f32) (idx : IVec S49284x9x1 32) (n : Fin 49284) (j : Fin 9) (c : Fin 3)
    (r : ℕ) (hr : r < 50176) (h : idx (ix3 n j 0) = BitVec.ofNat 32 r) :
    Host.gather gather_S50176x3_S49284x9x1_S49284x9x3_2_0_n_n_0_2_13 x idx (ix3 n j c) = x (ix2 ⟨r, hr⟩ c) := by
  have e : ∀ q, (gather_S50176x3_S49284x9x1_S49284x9x3_2_0_n_n_0_2_13).siIdx (ix3 n j c) q = ix3 n j 0 := by
    intro q
    funext b
    fin_cases b
    · rfl
    · rfl
    · exact Subsingleton.elim (α := Fin 1) _ _
  unfold Host.gather
  congr 1
  funext a
  fin_cases a
  · apply Fin.ext
    show min (idx ((gather_S50176x3_S49284x9x1_S49284x9x3_2_0_n_n_0_2_13).siIdx (ix3 n j c) _)).toInt.toNat (50176 - 1) + 0 + 0 = r
    rw [e, h, number_toInt hr]
    omega
  · apply Fin.ext
    show 0 + 0 + c.val = c.val
    omega

/-- The pixel a window's pixel is gathered from, in one channel. -/
theorem gather_one (x : Vec Ideal S50176 .f32) (idx : IVec S49284x9x1 32) (n : Fin 49284) (j : Fin 9)
    (r : ℕ) (hr : r < 50176) (h : idx (ix3 n j 0) = BitVec.ofNat 32 r) :
    Host.gather gather_S50176_S49284x9x1_S49284x9_n_0_n_n_0_2_1 x idx (ix2 n j) = x (ix1 ⟨r, hr⟩) := by
  have e : ∀ q, (gather_S50176_S49284x9x1_S49284x9_n_0_n_n_0_2_1).siIdx (ix2 n j) q = ix3 n j 0 := by
    intro q
    funext b
    fin_cases b
    · rfl
    · rfl
    · exact Subsingleton.elim (α := Fin 1) _ _
  unfold Host.gather
  congr 1
  funext a
  fin_cases a
  apply Fin.ext
  show min (idx ((gather_S50176_S49284x9x1_S49284x9_n_0_n_n_0_2_1).siIdx (ix2 n j) _)).toInt.toNat (50176 - 1) + 0 + 0 = r
  rw [e, h, number_toInt hr]
  omega

end Cert.ReferenceIdeal.Value
-- ==== Proof.RefWindow.lean ====
/- What the reference's window arrays hold: the gathered pixels, means, covariances, and deviations. -/
module

public import proofs.«01_k».proof.Proof.RefIndex
public import proofs.«01_k».proof.Proof.Lift
@[expose] public section

set_option maxRecDepth 16384

noncomputable section

open Idealize.ShloMosaic Idealize.ShloMosaic.TcCoe

namespace Cert.ReferenceIdeal.Value

open Cert.Loss Cert.ReferenceIdeal Cert.ReferenceIdeal.Gen

variable (p : ℕ → ℕ → ℕ → ℝ)

/-- The image of real pixels, as the reference's argument. -/
def pixels : Vec Ideal S1x3x224x224 .f32 := fun i => ((p (i 1).val (i 2).val (i 3).val : ℝ) : EReal)

/-- Window `n` of the image, windows counted in row-major order. -/
def window (n : ℕ) : Win := fun c j => p c.val (n / 222 + j.val / 3) (n % 222 + j.val % 3)

/-- A pixel of a window is the image's pixel of that number. -/
theorem window_number (c : Fin 3) (n : ℕ) (j : Fin 9) :
    p c.val (number n j / 224) (number n j % 224) = window p n c j := by
  have h : n % 222 < 222 := Nat.mod_lt _ (by decide)
  have hj := j.isLt
  have h1 : number n j / 224 = n / 222 + j.val / 3 := by unfold number; omega
  have h2 : number n j % 224 = n % 222 + j.val % 3 := by unfold number; omega
  rw [h1, h2]
  rfl

/-- What the colour model leaves of a channel's gathered windows, as the reference computes it. -/
def leftover (V : Valuation τ sig (Elt Ideal)) (G : FVec Ideal S49284x9 .f32) : FVec Ideal S49284x9 .f32 :=
  subf G (Host.divf (addf (broadcastInDim S49284x9 ![0, 1] bcast_S49284x1_S49284x9_0_1
      (broadcastInDim S49284x1 ![0] bcast_S49284_S49284x1_0 (Host.reduceAdd G (constant S_ .f32 0x00000000#32) reducesTo_S49284x9_S49284_d1 h_S_)))
      (Host.dotGeneral (φ₁ := .f32) dot_S49284x9x3_S49284x3_S49284x9_2_1_1_n_0_0 none (res_main_v115 V)
        (Host.dotGeneral (φ₁ := .f32) dot_S49284x9x3_S49284x9_S49284x3_1_1_2_n_0_0 none (res_main_v114 V) G)))
      (broadcastInDim S49284x9 ![] bcast_S_S49284x9 (constant S_ .f32 0x41100000#32)))

variable {V : Valuation τ sig (Elt Ideal)} (hV : V (Proc.devRef .tc main_arg0) = pixels p)
include hV

/-- The gathered windows. -/
theorem windows_at (n : Fin 49284) (j : Fin 9) (c : Fin 3) :
    res_main_v14 V (ix3 n j c) = ((window p n c j : ℝ) : EReal) := by
  rw [res_main_v14, gather_row _ _ n j c (number n j) (number_lt n.isLt j.isLt)]
  · rw [hV, ← window_number]
    pointwise [pixels]
  · have h := numbers_at V n j
    pointwise [h]

/-- Channel 0, flat. -/
theorem channel0_at (q : Fin 50176) : res_main_v119 V (ix1 q) = ((p 0 (q.val / 224) (q.val % 224) : ℝ) : EReal) := by
  rw [res_main_v119, res_main_v117, hV]
  pointwise [pixels]

/-- Channel 1, flat. -/
theorem channel1_at (q : Fin 50176) : res_main_v143 V (ix1 q) = ((p 1 (q.val / 224) (q.val % 224) : ℝ) : EReal) := by
  rw [res_main_v143, res_main_v117, hV]
  pointwise [pixels]

/-- Channel 2, flat. -/
theorem channel2_at (q : Fin 50176) : res_main_v167 V (ix1 q) = ((p 2 (q.val / 224) (q.val % 224) : ℝ) : EReal) := by
  rw [res_main_v167, res_main_v117, hV]
  pointwise [pixels]

omit hV in
/-- The pixels gathered from a flat channel. -/
theorem gathered_at (c : Fin 3) (X : Vec Ideal S50176 .f32)
    (hX : ∀ q : Fin 50176, X (ix1 q) = ((p c.val (q.val / 224) (q.val % 224) : ℝ) : EReal)) (n : Fin 49284) (j : Fin 9) :
    Host.gather gather_S50176_S49284x9x1_S49284x9_n_0_n_n_0_2_1 X
      (broadcastInDim S49284x9x1 ![0, 1] bcast_S49284x9_S49284x9x1_0_1 (res_main_v9 V)) (ix2 n j)
      = ((window p n c j : ℝ) : EReal) := by
  rw [gather_one _ _ n j (number n j) (number_lt n.isLt j.isLt)]
  · rw [hX, ← window_number]
  · have h := numbers_at V n j
    pointwise [h]

/-- The means. -/
theorem means_at (n : Fin 49284) (z : Fin 1) (c : Fin 3) :
    res_main_v18 V (ix3 n z c) = ((mean c (window p n) : ℝ) : EReal) := by
  rw [res_main_v18]
  pointwise [windows_at p hV]
  rw [← coe_sum, ofBits_nine, div_real _ _ (by norm_num)]
  rfl

/-- The covariances. -/
theorem covs_at (n : Fin 49284) (i k : Fin 3) : res_main_v34 V (ix3 n i k) = ((cov i k (window p n) : ℝ) : EReal) := by
  rw [res_main_v34]
  pointwise [windows_at p hV, means_at p hV]
  rw [eye_at, ofBits_nine, ofBits_delta]
  simp only [← EReal.coe_mul, ← coe_sum]
  rw [div_real _ _ (by norm_num)]
  simp only [← EReal.coe_mul, ← EReal.coe_sub, ← EReal.coe_add, Finset.univ_unique, Finset.sum_singleton]
  rfl

/-- The deviations. -/
theorem devs_at (n : Fin 49284) (j : Fin 9) (c : Fin 3) : res_main_v114 V (ix3 n j c) = ((dev c j (window p n) : ℝ) : EReal) := by
  rw [res_main_v114]
  pointwise [windows_at p hV, means_at p hV]
  rw [← EReal.coe_sub]
  rfl

/-- The covariance's nine entries, each an array over the windows. -/
theorem entries_at (n : Fin 49284) :
    res_main_v36 V (ix1 n) = ((cov 0 0 (window p n) : ℝ) : EReal) ∧
    res_main_v38 V (ix1 n) = ((cov 0 1 (window p n) : ℝ) : EReal) ∧
    res_main_v40 V (ix1 n) = ((cov 0 2 (window p n) : ℝ) : EReal) ∧
    res_main_v42 V (ix1 n) = ((cov 1 0 (window p n) : ℝ) : EReal) ∧
    res_main_v44 V (ix1 n) = ((cov 1 1 (window p n) : ℝ) : EReal) ∧
    res_main_v46 V (ix1 n) = ((cov 1 2 (window p n) : ℝ) : EReal) ∧
    res_main_v48 V (ix1 n) = ((cov 2 0 (window p n) : ℝ) : EReal) ∧
    res_main_v50 V (ix1 n) = ((cov 2 1 (window p n) : ℝ) : EReal) ∧
    res_main_v52 V (ix1 n) = ((cov 2 2 (window p n) : ℝ) : EReal) := by
  refine ⟨?_, ?_, ?_, ?_, ?_, ?_, ?_, ?_, ?_⟩ <;>
  simp only [res_main_v36, res_main_v38, res_main_v40, res_main_v42, res_main_v44, res_main_v46, res_main_v48, res_main_v50,
    res_main_v52] <;>
  pointwise [covs_at p hV]

/-- The deviations times the inverse covariance. -/
theorem projs_at (n : Fin 49284) (j : Fin 9) (k : Fin 3) :
    res_main_v115 V (ix3 n j k) = ((proj j k (window p n) : ℝ) : EReal) := by
  rw [res_main_v115]
  obtain ⟨e0, e1, e2, e3, e4, e5, e6, e7, e8⟩ := entries_at p hV n
  have hd := det_ne (window p n)
  simp only [det, cof, Fin.isValue, Fin.reduceAdd] at hd
  fin_cases k <;>
  · pointwise [devs_at p hV, Fin.sum_univ_three, e0, e1, e2, e3, e4, e5, e6, e7, e8]
    simp only [← EReal.coe_mul, ← EReal.coe_sub, ← EReal.coe_add]
    simp only [div_real _ _ hd, ← EReal.coe_mul, ← EReal.coe_add]
    simp only [proj, Loss.inv, Fin.sum_univ_three, det, cof, Fin.isValue, Fin.reduceAdd]

/-- It is the windows' residuals. -/
theorem leftover_at (c : Fin 3) (G : FVec Ideal S49284x9 .f32)
    (hG : ∀ (n : Fin 49284) (j : Fin 9), G (ix2 n j) = ((window p n c j : ℝ) : EReal)) (n : Fin 49284) (j : Fin 9) :
    leftover V G (ix2 n j) = ((resid c j (window p n) : ℝ) : EReal) := by
  rw [leftover]
  pointwise [devs_at p hV, projs_at p hV, hG]
  rw [ofBits_nine]
  simp only [← EReal.coe_mul, ← coe_sum, ← EReal.coe_add]
  rw [div_real _ _ (by norm_num), ← EReal.coe_sub]
  rfl

end Cert.ReferenceIdeal.Value
-- ==== Proof.RefScatter.lean ====
/- The reference's scatter and its sum against a channel: a sum over every pixel of every window. -/
module

public import proofs.«01_k».proof.Proof.RefWindow
@[expose] public section

set_option maxRecDepth 16384

noncomputable section

open Idealize.ShloMosaic Idealize.ShloMosaic.TcCoe

namespace Cert.ReferenceIdeal.Value

open Cert.Loss Cert.ReferenceIdeal Cert.ReferenceIdeal.Gen

/-- The position of a window's pixel in the flat list of all windows' pixels. -/
def place (n : Fin 49284) (j : Fin 9) : Fin 443556 := ⟨j.val + 9 * n.val, by omega⟩

/-- A sum over the flat list is a sum over windows and their pixels. -/
theorem sum_places (f : S443556.Idx → ℝ) : ∑ k, f k = ∑ n : Fin 49284, ∑ j : Fin 9, f (ix1 (place n j)) := by
  rw [← Fintype.sum_prod_type']
  symm
  refine Fintype.sum_bijective (fun q : Fin 49284 × Fin 9 => (ix1 (place q.1 q.2) : S443556.Idx)) ⟨?_, ?_⟩ _ _ (fun _ => rfl)
  · intro a b h
    have h' : (place a.1 a.2).val = (place b.1 b.2).val := congrArg (fun i : S443556.Idx => (i 0).val) h
    have ha := a.2.isLt
    have hb := b.2.isLt
    simp only [place] at h'
    exact Prod.ext (Fin.ext (by omega)) (Fin.ext (by omega))
  · intro k
    have hk : (k 0).val < 443556 := (k 0).isLt
    refine ⟨(⟨(k 0).val / 9, by omega⟩, ⟨(k 0).val % 9, by omega⟩), ?_⟩
    funext a
    fin_cases a
    apply Fin.ext
    show (k 0).val % 9 + 9 * ((k 0).val / 9) = (k 0).val
    omega

/-- Where an update lands. -/
theorem lands (I : IVec S443556x1 32) (k : Fin 443556) (r : ℕ) (hr : r < 50176) (h : I (ix2 k 0) = BitVec.ofNat 32 r) :
    (scatter_S50176_S443556x1_S443556_n_0_0_1).resultIdx? (ix1 k) I = some (ix1 ⟨r, hr⟩) := by
  have e : ∀ q, (scatter_S50176_S443556x1_S443556_n_0_0_1).siIdx (ix1 k) q = ix2 k 0 := by
    intro q
    funext b
    fin_cases b
    · rfl
    · exact Subsingleton.elim (α := Fin 1) _ _
  have hs : ∀ a, (scatter_S50176_S443556x1_S443556_n_0_0_1).start (ix1 k) I a + (scatter_S50176_S443556x1_S443556_n_0_0_1).window (ix1 k) a = (r : ℤ) := by
    intro a
    fin_cases a
    show (I ((scatter_S50176_S443556x1_S443556_n_0_0_1).siIdx (ix1 k) _)).toInt + ((0 : ℕ) : ℤ) = r
    rw [e, h, number_toInt hr]
    rfl
  unfold ScatterDims.resultIdx?
  rw [dif_pos]
  · congr 1
    funext a
    apply Fin.ext
    show ((scatter_S50176_S443556x1_S443556_n_0_0_1).start (ix1 k) I a + (scatter_S50176_S443556x1_S443556_n_0_0_1).window (ix1 k) a).toNat = _
    rw [hs]
    fin_cases a
    rfl
  · intro a
    rw [hs]
    fin_cases a
    constructor
    · exact Int.natCast_nonneg r
    · show (r : ℤ) < ((50176 : ℕ) : ℤ)
      exact_mod_cast hr

/-- A sum over the coordinates of a flat array is a sum over its indices. -/
theorem sum_flat (g : S50176.Idx → EReal) : ∑ q : Fin 50176, g (ix1 q) = ∑ q, g q := by
  refine Fintype.sum_bijective (fun q : Fin 50176 => (ix1 q : S50176.Idx)) ⟨?_, ?_⟩ _ _ (fun _ => rfl)
  · intro a b h
    exact congrFun h 0
  · intro k
    refine ⟨k 0, ?_⟩
    funext a
    fin_cases a
    rfl

/-- Sums over fibres, each weighted at its base, are one weighted sum. -/
theorem fiber_sum {κ ι : Type} [Fintype κ] [Fintype ι] [DecidableEq ι] (f : κ → ι) (u : κ → ℝ) (x : ι → ℝ) :
    ∑ q, (∑ k ∈ Finset.univ.filter (fun k => f k = q), u k) * x q = ∑ k, u k * x (f k) := by
  rw [← Finset.sum_fiberwise Finset.univ f]
  refine Finset.sum_congr rfl fun q _ => ?_
  rw [Finset.sum_mul]
  refine Finset.sum_congr rfl fun k hk => ?_
  rw [(Finset.mem_filter.1 hk).2]

/-- A scatter into zeros, multiplied by an array and summed: each update times the array where it lands. -/
theorem scatter_sum (I : IVec S443556x1 32) (U : FVec Ideal S443556 .f32) (X : FVec Ideal S50176 .f32)
    (f : S443556.Idx → S50176.Idx) (u : S443556.Idx → ℝ) (x : S50176.Idx → ℝ)
    (hf : ∀ k, (scatter_S50176_S443556x1_S443556_n_0_0_1).resultIdx? k I = some (f k))
    (hU : ∀ k, U k = ((u k : ℝ) : EReal)) (hX : ∀ q, X q = ((x q : ℝ) : EReal)) :
    Host.reduceAdd (mulf (Host.scatterAdd scatter_S50176_S443556x1_S443556_n_0_0_1
      (broadcastInDim S50176 ![] bcast_S_S50176 (constant S_ .f32 0x00000000#32)) I U) X)
      (constant S_ .f32 0x00000000#32) reducesTo_S50176_S_d0 h_S_ = fun _ => ((∑ k, u k * x (f k) : ℝ) : EReal) := by
  have hs : ∀ q, Host.scatterAdd scatter_S50176_S443556x1_S443556_n_0_0_1
      (broadcastInDim S50176 ![] bcast_S_S50176 (constant S_ .f32 0x00000000#32)) I U q
      = ((∑ k ∈ Finset.univ.filter (fun k => f k = q), u k : ℝ) : EReal) := by
    intro q
    show Ideal.ofBits .f32 0x00000000#32 + ∑ k ∈ Finset.univ.filter _, U k = _
    rw [coe_sum]
    simp only [hf, hU, Option.some.injEq, Ideal.ofBits_zero_f32, zero_add]
  funext i
  pointwise [hX]
  simp only [hs, ← EReal.coe_mul]
  rw [sum_flat fun q => (((∑ k ∈ Finset.univ.filter (fun k => f k = q), u k) * x q : ℝ) : EReal), ← coe_sum]
  rw [fiber_sum]

end Cert.ReferenceIdeal.Value
-- ==== Proof.RefLoss.lean ====
/- The reference's result: the sum of the windows' losses. -/
module

public import proofs.«01_k».proof.Proof.RefScatter
@[expose] public section

set_option maxRecDepth 16384

noncomputable section

open Idealize.ShloMosaic Idealize.ShloMosaic.TcCoe Idealize.SL.Sem Idealize.ShloMosaic.StableHlo

namespace Cert.ReferenceIdeal.Value

open Cert.Loss Cert.ReferenceIdeal Cert.ReferenceIdeal.Gen

/-- Where the reference scatters: the flat pixel numbers, a negative one counted from the end. -/
def targets (V : Valuation τ sig (Elt Ideal)) : IVec S443556x1 32 :=
  broadcastInDim S443556x1 ![0] bcast_S443556_S443556x1_0 (select (cmpi .slt (res_main_v10 V)
    (broadcastInDim S443556 ![] bcast_S_S443556 (constantI S_ 32 0#32)))
    (addi (res_main_v10 V) (broadcastInDim S443556 ![] bcast_S_S443556 (constantI S_ 32 50176#32))) (res_main_v10 V))

/-- A channel's leftovers scattered to the image and summed against the channel. -/
def folded (V : Valuation τ sig (Elt Ideal)) (G : FVec Ideal S49284x9 .f32) (X : FVec Ideal S50176 .f32) : FVec Ideal S_ .f32 :=
  Host.reduceAdd (mulf (Host.scatterAdd scatter_S50176_S443556x1_S443556_n_0_0_1
    (broadcastInDim S50176 ![] bcast_S_S50176 (constant S_ .f32 0x00000000#32)) (targets V)
    (shapeCast S443556 (leftover V G) shapeCasts_S49284x9_S443556)) X)
    (constant S_ .f32 0x00000000#32) reducesTo_S50176_S_d0 h_S_

/-- The number of the pixel at a place of the flat list. -/
theorem placed_lt (k : Fin 443556) : number (k.val / 9) (k.val % 9) < 50176 :=
  number_lt (by omega) (by omega)

/-- A pixel number is not negative as a signed word. -/
theorem number_nonneg {r : ℕ} (hr : r < 50176) : IntOp.cmpi .slt (BitVec.ofNat 32 r) 0#32 = 0#1 := by
  have h : (BitVec.ofNat 32 r).slt 0#32 = false := by
    rw [BitVec.slt, number_toInt hr]
    simp
  simp [IntOp.cmpi, h]

/-- Each place's update lands at its pixel's number. -/
theorem targets_at (V : Valuation τ sig (Elt Ideal)) (k : Fin 443556) :
    targets V (ix2 k 0) = BitVec.ofNat 32 (number (k.val / 9) (k.val % 9)) := by
  have h : ∀ k : Fin 443556, res_main_v10 V (ix1 k) = BitVec.ofNat 32 (number (k.val / 9) (k.val % 9)) := by
    intro k
    rw [res_main_v10]
    pointwise [numbers_at V]
  pointwise [targets, h]
  rw [number_nonneg (placed_lt k)]
  simp [Scalar.select]

variable (p : ℕ → ℕ → ℕ → ℝ) {V : Valuation τ sig (Elt Ideal)} (hV : V (Proc.devRef .tc main_arg0) = pixels p)
include hV

/-- A channel's sum is its part of the windows' losses. -/
theorem folded_eq (c : Fin 3) (G : FVec Ideal S49284x9 .f32) (X : FVec Ideal S50176 .f32)
    (hG : ∀ (n : Fin 49284) (j : Fin 9), G (ix2 n j) = ((window p n c j : ℝ) : EReal))
    (hX : ∀ q : Fin 50176, X (ix1 q) = ((p c.val (q.val / 224) (q.val % 224) : ℝ) : EReal)) :
    folded V G X = fun _ => ((∑ n : Fin 49284, lossC c (window p n) : ℝ) : EReal) := by
  have hn : ∀ k : Fin 443556, k.val / 9 < 49284 := fun k => by omega
  have hj : ∀ k : Fin 443556, k.val % 9 < 9 := fun k => by omega
  rw [folded, scatter_sum (targets V) _ X
    (fun k => ix1 ⟨number ((k 0).val / 9) ((k 0).val % 9), placed_lt (k 0)⟩)
    (fun k => resid c ⟨(k 0).val % 9, hj (k 0)⟩ (window p ((k 0).val / 9)))
    (fun q => p c.val ((q 0).val / 224) ((q 0).val % 224))]
  · rw [sum_places]
    have e : ∀ (n : Fin 49284) (j : Fin 9), (place n j).val / 9 = n.val ∧ (place n j).val % 9 = j.val := by
      intro n j
      simp only [place]
      omega
    have h : ∀ (n : Fin 49284) (j : Fin 9),
        resid c ⟨(place n j).val % 9, hj (place n j)⟩ (window p ((place n j).val / 9))
          * p c.val (number ((place n j).val / 9) ((place n j).val % 9) / 224)
            (number ((place n j).val / 9) ((place n j).val % 9) % 224)
        = resid c j (window p n) * window p n c j := by
      intro n j
      have e2 : (⟨(place n j).val % 9, hj (place n j)⟩ : Fin 9) = j := Fin.ext (e n j).2
      rw [e2, (e n j).1, (e n j).2, window_number p c n j]
    funext _
    refine congrArg (fun t : ℝ => (t : EReal)) ?_
    exact Finset.sum_congr rfl fun n _ => Finset.sum_congr rfl fun j _ => h n j
  · intro k
    idx_vars k
    exact lands _ _ _ _ (targets_at V _)
  · intro k
    idx_vars k
    pointwise [leftover_at p hV c G hG]
  · intro q
    idx_vars q
    exact hX _

/-- The three channels' sums, added and divided by one. -/
theorem result_eq :
    Host.divf (addf (addf (addf (constant S_ .f32 0x00000000#32) (folded V (res_main_v120 V) (res_main_v119 V)))
      (folded V (res_main_v144 V) (res_main_v143 V))) (folded V (res_main_v168 V) (res_main_v167 V))) (constant S_ .f32 0x3F800000#32)
      = fun _ => ((∑ n : Fin 49284, loss (window p n) : ℝ) : EReal) := by
  rw [folded_eq p hV 0 (res_main_v120 V) (res_main_v119 V) (gathered_at p 0 _ (channel0_at p hV)) (channel0_at p hV),
    folded_eq p hV 1 (res_main_v144 V) (res_main_v143 V) (gathered_at p 1 _ (channel1_at p hV)) (channel1_at p hV),
    folded_eq p hV 2 (res_main_v168 V) (res_main_v167 V) (gathered_at p 2 _ (channel2_at p hV)) (channel2_at p hV)]
  funext i
  pointwise
  simp only [Ideal.ofBits_zero_f32, Ideal.ofBits_one_f32, zero_add, ← EReal.coe_add, ← EReal.coe_one]
  rw [div_real _ _ one_ne_zero, div_one]
  simp only [loss, Fin.sum_univ_three, Finset.sum_add_distrib]

end Cert.ReferenceIdeal.Value
-- ==== Proof.RefRun.lean ====
/- The reference program's run: its result is the sum of the windows' losses. -/
module

public import proofs.«01_k».proof.Proof.RefLoss
@[expose] public section

set_option maxRecDepth 16384

noncomputable section

open Idealize.ShloMosaic Idealize.ShloMosaic.TcCoe Idealize.SL.Sem Idealize.ShloMosaic.StableHlo

namespace Cert.ReferenceIdeal.Value

open Cert.Loss Cert.ReferenceIdeal Cert.ReferenceIdeal.Gen

/-- Every run of the reference ends with the sum of the windows' losses, its argument unchanged. -/
theorem reference_run (m : (ℓ : Loc nD τ sig) → Buf (Elt Ideal) ℓ) (g : Dev nD → PrngReg) (p : Dev nD → ℕ → ℕ → ℕ → ℝ)
    (hm : ∀ c : Dev nD, m ((c.tc : Thread nD τ).loc main_arg0) = pixels (p c)) :
    θ_run (defs (F := Ideal)) (onTc (τ := τ) (main (F := Ideal))) ⟨m, fun _ => 0, g⟩ (fun r => ∀ c : Dev nD,
      r.2.mem ((c.tc : Thread nD τ).loc main_v190) = (fun _ => ((∑ n : Fin 49284, loss (window (p c) n) : ℝ) : EReal))
      ∧ r.2.mem ((c.tc : Thread nD τ).loc main_arg0) = m ((c.tc : Thread nD τ).loc main_arg0)) := by
  refine (θ_run defs _ _).mono (fun r h c => ⟨?_, (h c).2⟩) (run (F := Ideal) m g)
  exact (h c).1.trans (result_eq (p c) (V := launchContents m c) (hm c))

/-- Windows counted in row-major order are windows counted by row and column. -/
theorem sum_windows (f : ℕ → ℝ) : ∑ n : Fin 49284, f n = ∑ a : Fin 222, ∑ b : Fin 222, f (b.val + 222 * a.val) := by
  rw [← Fintype.sum_prod_type']
  symm
  exact Fintype.sum_equiv (finProdFinEquiv : Fin 222 × Fin 222 ≃ Fin (222 * 222)) _ _ fun _ => rfl

end Cert.ReferenceIdeal.Value
-- ==== Proof.Equal.lean ====
/- The equation: on a finite image both programs end with the same number. -/
module

public import proofs.«01_k».proof.Defs
public import proofs.«01_k».proof.Proof.Gen.Pre_finite
public import proofs.«01_k».proof.Proof.Finite
public import proofs.«01_k».proof.Proof.Leg
public import proofs.«01_k».proof.Proof.RefRun
@[expose] public section

set_option maxRecDepth 16384

noncomputable section

open Idealize.ShloMosaic Idealize.ShloMosaic.TcCoe Idealize.SL.Sem

namespace Cert.Proof

open Cert.Loss

/-- The reference's windows, summed, are the kernel's. -/
theorem windows_total (p : ℕ → ℕ → ℕ → ℝ) :
    ∑ n : Fin 49284, loss (Cert.ReferenceIdeal.Value.window p n) = Cert.KernelIdeal.Value.total p := by
  rw [Cert.ReferenceIdeal.Value.sum_windows fun n => loss (Cert.ReferenceIdeal.Value.window p n), Cert.KernelIdeal.Value.total]
  refine Finset.sum_congr rfl fun a _ => Finset.sum_congr rfl fun b _ => ?_
  have h1 : (b.val + 222 * a.val) / 222 = a.val := by omega
  have h2 : (b.val + 222 * a.val) % 222 = b.val := by omega
  refine congrArg loss ?_
  unfold Cert.ReferenceIdeal.Value.window
  rw [h1, h2]
  rfl

/-- In exact arithmetic, on every finite image, the kernel's result is the reference's. -/
theorem same_result : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hm
  have hp := fun c => Cert.Pre_finite.image_of_finite _ (hpre c)
  refine ⟨_, Cert.KernelIdeal.Value.kernel_run m g (fun c => Cert.Pre_finite.reals _) (fun c => hp c), ?_⟩
  have hr := Cert.ReferenceIdeal.Value.reference_run m' g' (fun c => Cert.Pre_finite.reals _) (fun c => (hm c).trans (hp c))
  simp only [windows_total] at hr
  exact hr

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to its end, its argument unchanged and every counter at zero. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- All the claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    IdealRules.named_const.statement _ _ _ _ _ rfl, same_result⟩

end Cert.Proof

end
